-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_causal_finite [hPre_causal_finite : Cert.Pre_causal_finite.Facts] (m : (ℓ : Loc Cert.KernelIdeal.nD Cert.KernelIdeal.τ Cert.KernelIdeal.sig) → Buf (Elt Ideal) ℓ) : Prop :=
  ∀ c : Dev Cert.KernelIdeal.nD,
    (Cert.Pre_causal_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_causal_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_causal_finite [hPre_causal_finite : Cert.Pre_causal_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_causal_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_causal_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_causal_finite [hKernelIdeal : Cert.KernelIdeal.Facts] [hPre_causal_finite : Cert.Pre_causal_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_causal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_causal_finite [hReferenceIdeal : Cert.ReferenceIdeal.Facts] [hPre_causal_finite : Cert.Pre_causal_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_causal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_causal_finite [hKernelIdeal : Cert.KernelIdeal.Facts] [hReferenceIdeal : Cert.ReferenceIdeal.Facts] [hPre_causal_finite : Cert.Pre_causal_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_causal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_causal_finite : Cert.Pre_causal_finite.Facts),
    quiescent_Kernel (hKernel := hKernel)
    ∧ quiescent_KernelIdeal (hKernelIdeal := hKernelIdeal)
    ∧ quiescent_KernelIdeal_pre_causal_finite (hKernelIdeal := hKernelIdeal) (hPre_causal_finite := hPre_causal_finite)
    ∧ quiescent_ReferenceIdeal (hReferenceIdeal := hReferenceIdeal)
    ∧ quiescent_ReferenceIdeal_pre_causal_finite (hReferenceIdeal := hReferenceIdeal) (hPre_causal_finite := hPre_causal_finite)
    ∧ preserves_Kernel_KernelIdeal
    ∧ algebraic_KernelIdeal_ReferenceIdeal_pre_causal_finite (hKernelIdeal := hKernelIdeal) (hReferenceIdeal := hReferenceIdeal) (hPre_causal_finite := hPre_causal_finite)
-- ==== Pre_causal_finite.lean ====
abbrev S2x2048x12x64 : Shape := ⟨4, ![2, 2048, 12, 64]⟩
abbrev S2x1x2048x2048 : Shape := ⟨4, ![2, 1, 2048, 2048]⟩
abbrev S_ : Shape := ⟨0, ![]⟩

class Facts : Prop where
  bcast_S_S2x2048x12x64 : S_.BroadcastsInDim S2x2048x12x64 (![] : Fin 0 → Fin S2x2048x12x64.rank)

variable [Facts]

def fn {F : FTy → Type} [FloatOps F] (main_arg0 : FVec F S2x2048x12x64 .f32) (main_arg1 : FVec F S2x2048x12x64 .f32) (main_arg2 : FVec F S2x2048x12x64 .f32) (main_arg3 : IVec S2x1x2048x2048 1) : IVec S2x2048x12x64 1 × IVec S2x1x2048x2048 1 :=
  let main_v0 : FVec F S2x2048x12x64 .f32 := Host.absf main_arg0
  let main_cst : FVec F S_ .f32 := constant S_ .f32 0x7F800000#32
  let main_v1 : FVec F S2x2048x12x64 .f32 := broadcastInDim S2x2048x12x64 ![] bcast_S_S2x2048x12x64 main_cst
  let main_v2 : IVec S2x2048x12x64 1 := cmpf .olt main_v0 main_v1
  let main_v3 : FVec F S2x2048x12x64 .f32 := Host.absf main_arg1
  let main_cst_0 : FVec F S_ .f32 := constant S_ .f32 0x7F800000#32
  let main_v4 : FVec F S2x2048x12x64 .f32 := broadcastInDim S2x2048x12x64 ![] bcast_S_S2x2048x12x64 main_cst_0
  let main_v5 : IVec S2x2048x12x64 1 := cmpf .olt main_v3 main_v4
  let main_v6 : IVec S2x2048x12x64 1 := andi main_v2 main_v5
  let main_v7 : FVec F S2x2048x12x64 .f32 := Host.absf main_arg2
  let main_cst_1 : FVec F S_ .f32 := constant S_ .f32 0x7F800000#32
  let main_v8 : FVec F S2x2048x12x64 .f32 := broadcastInDim S2x2048x12x64 ![] bcast_S_S2x2048x12x64 main_cst_1
  let main_v9 : IVec S2x2048x12x64 1 := cmpf .olt main_v7 main_v8
  let main_v10 : IVec S2x2048x12x64 1 := andi main_v6 main_v9
  let main_v11 : IVec S2x1x2048x2048 32 := iotaInDim S2x1x2048x2048 32 2
  let main_v12 : IVec S2x1x2048x2048 32 := iotaInDim S2x1x2048x2048 32 3
  let main_v13 : IVec S2x1x2048x2048 1 := cmpi .slt main_v11 main_v12
  let main_v14 : IVec S2x1x2048x2048 1 := cmpi .eq main_arg3 main_v13
  (main_v10, main_v14)
-- ==== Kernel.lean ====
abbrev S2x2048x12x64 : Shape := ⟨4, ![2, 2048, 12, 64]⟩
abbrev S2x1x2048x2048 : Shape := ⟨4, ![2, 1, 2048, 2048]⟩
abbrev S2x2048x768 : Shape := ⟨3, ![2, 2048, 768]⟩
abbrev S1x2048x256 : Shape := ⟨3, ![1, 2048, 256]⟩
abbrev S512x160 : Shape := ⟨2, ![512, 160]⟩
abbrev S512x512 : Shape := ⟨2, ![512, 512]⟩
abbrev S256x4 : Shape := ⟨2, ![256, 4]⟩
abbrev S4x256 : Shape := ⟨2, ![4, 256]⟩
abbrev S1x256 : Shape := ⟨2, ![1, 256]⟩
abbrev S1x512x256 : Shape := ⟨3, ![1, 512, 256]⟩
abbrev S512x256 : Shape := ⟨2, ![512, 256]⟩
abbrev S512x4 : Shape := ⟨2, ![512, 4]⟩
abbrev S1x511x256 : Shape := ⟨3, ![1, 511, 256]⟩
abbrev S511x256 : Shape := ⟨2, ![511, 256]⟩
abbrev S2x256 : Shape := ⟨2, ![2, 256]⟩
abbrev S1x510x256 : Shape := ⟨3, ![1, 510, 256]⟩
abbrev S510x256 : Shape := ⟨2, ![510, 256]⟩
abbrev S3x256 : Shape := ⟨2, ![3, 256]⟩
abbrev S1x509x256 : Shape := ⟨3, ![1, 509, 256]⟩
abbrev S509x256 : Shape := ⟨2, ![509, 256]⟩
abbrev S1x508x256 : Shape := ⟨3, ![1, 508, 256]⟩
abbrev S508x256 : Shape := ⟨2, ![508, 256]⟩
abbrev S5x256 : Shape := ⟨2, ![5, 256]⟩
abbrev S1x507x256 : Shape := ⟨3, ![1, 507, 256]⟩
abbrev S507x256 : Shape := ⟨2, ![507, 256]⟩
abbrev S6x256 : Shape := ⟨2, ![6, 256]⟩
abbrev S1x506x256 : Shape := ⟨3, ![1, 506, 256]⟩
abbrev S506x256 : Shape := ⟨2, ![506, 256]⟩
abbrev S7x256 : Shape := ⟨2, ![7, 256]⟩
abbrev S1x505x256 : Shape := ⟨3, ![1, 505, 256]⟩
abbrev S505x256 : Shape := ⟨2, ![505, 256]⟩
abbrev S8x256 : Shape := ⟨2, ![8, 256]⟩
abbrev S1x504x256 : Shape := ⟨3, ![1, 504, 256]⟩
abbrev S504x256 : Shape := ⟨2, ![504, 256]⟩
abbrev S65x256 : Shape := ⟨2, ![65, 256]⟩
abbrev S1x447x256 : Shape := ⟨3, ![1, 447, 256]⟩
abbrev S447x256 : Shape := ⟨2, ![447, 256]⟩
abbrev S130x256 : Shape := ⟨2, ![130, 256]⟩
abbrev S1x382x256 : Shape := ⟨3, ![1, 382, 256]⟩
abbrev S382x256 : Shape := ⟨2, ![382, 256]⟩
abbrev S195x256 : Shape := ⟨2, ![195, 256]⟩
abbrev S1x317x256 : Shape := ⟨3, ![1, 317, 256]⟩
abbrev S317x256 : Shape := ⟨2, ![317, 256]⟩
abbrev S260x256 : Shape := ⟨2, ![260, 256]⟩
abbrev S1x252x256 : Shape := ⟨3, ![1, 252, 256]⟩
abbrev S252x256 : Shape := ⟨2, ![252, 256]⟩
abbrev S325x256 : Shape := ⟨2, ![325, 256]⟩
abbrev S1x187x256 : Shape := ⟨3, ![1, 187, 256]⟩
abbrev S187x256 : Shape := ⟨2, ![187, 256]⟩
abbrev S390x256 : Shape := ⟨2, ![390, 256]⟩
abbrev S1x122x256 : Shape := ⟨3, ![1, 122, 256]⟩
abbrev S122x256 : Shape := ⟨2, ![122, 256]⟩
abbrev S455x256 : Shape := ⟨2, ![455, 256]⟩
abbrev S1x57x256 : Shape := ⟨3, ![1, 57, 256]⟩
abbrev S57x256 : Shape := ⟨2, ![57, 256]⟩
abbrev S160x4 : Shape := ⟨2, ![160, 4]⟩
abbrev S512x1 : Shape := ⟨2, ![512, 1]⟩
abbrev S73x256 : Shape := ⟨2, ![73, 256]⟩
abbrev S1x439x256 : Shape := ⟨3, ![1, 439, 256]⟩
abbrev S439x256 : Shape := ⟨2, ![439, 256]⟩
abbrev S138x256 : Shape := ⟨2, ![138, 256]⟩
abbrev S1x374x256 : Shape := ⟨3, ![1, 374, 256]⟩
abbrev S374x256 : Shape := ⟨2, ![374, 256]⟩
abbrev S203x256 : Shape := ⟨2, ![203, 256]⟩
abbrev S1x309x256 : Shape := ⟨3, ![1, 309, 256]⟩
abbrev S309x256 : Shape := ⟨2, ![309, 256]⟩
abbrev S268x256 : Shape := ⟨2, ![268, 256]⟩
abbrev S1x244x256 : Shape := ⟨3, ![1, 244, 256]⟩
abbrev S244x256 : Shape := ⟨2, ![244, 256]⟩
abbrev S333x256 : Shape := ⟨2, ![333, 256]⟩
abbrev S1x179x256 : Shape := ⟨3, ![1, 179, 256]⟩
abbrev S179x256 : Shape := ⟨2, ![179, 256]⟩
abbrev S398x256 : Shape := ⟨2, ![398, 256]⟩
abbrev S1x114x256 : Shape := ⟨3, ![1, 114, 256]⟩
abbrev S114x256 : Shape := ⟨2, ![114, 256]⟩
abbrev S463x256 : Shape := ⟨2, ![463, 256]⟩
abbrev S1x49x256 : Shape := ⟨3, ![1, 49, 256]⟩
abbrev S49x256 : Shape := ⟨2, ![49, 256]⟩
abbrev S16x256 : Shape := ⟨2, ![16, 256]⟩
abbrev S1x496x256 : Shape := ⟨3, ![1, 496, 256]⟩
abbrev S496x256 : Shape := ⟨2, ![496, 256]⟩
abbrev S81x256 : Shape := ⟨2, ![81, 256]⟩
abbrev S1x431x256 : Shape := ⟨3, ![1, 431, 256]⟩
abbrev S431x256 : Shape := ⟨2, ![431, 256]⟩
abbrev S146x256 : Shape := ⟨2, ![146, 256]⟩
abbrev S1x366x256 : Shape := ⟨3, ![1, 366, 256]⟩
abbrev S366x256 : Shape := ⟨2, ![366, 256]⟩
abbrev S211x256 : Shape := ⟨2, ![211, 256]⟩
abbrev S1x301x256 : Shape := ⟨3, ![1, 301, 256]⟩
abbrev S301x256 : Shape := ⟨2, ![301, 256]⟩
abbrev S276x256 : Shape := ⟨2, ![276, 256]⟩
abbrev S1x236x256 : Shape := ⟨3, ![1, 236, 256]⟩
abbrev S236x256 : Shape := ⟨2, ![236, 256]⟩
abbrev S341x256 : Shape := ⟨2, ![341, 256]⟩
abbrev S1x171x256 : Shape := ⟨3, ![1, 171, 256]⟩
abbrev S171x256 : Shape := ⟨2, ![171, 256]⟩
abbrev S406x256 : Shape := ⟨2, ![406, 256]⟩
abbrev S1x106x256 : Shape := ⟨3, ![1, 106, 256]⟩
abbrev S106x256 : Shape := ⟨2, ![106, 256]⟩
abbrev S471x256 : Shape := ⟨2, ![471, 256]⟩
abbrev S1x41x256 : Shape := ⟨3, ![1, 41, 256]⟩
abbrev S41x256 : Shape := ⟨2, ![41, 256]⟩
abbrev S24x256 : Shape := ⟨2, ![24, 256]⟩
abbrev S1x488x256 : Shape := ⟨3, ![1, 488, 256]⟩
abbrev S488x256 : Shape := ⟨2, ![488, 256]⟩
abbrev S89x256 : Shape := ⟨2, ![89, 256]⟩
abbrev S1x423x256 : Shape := ⟨3, ![1, 423, 256]⟩
abbrev S423x256 : Shape := ⟨2, ![423, 256]⟩
abbrev S154x256 : Shape := ⟨2, ![154, 256]⟩
abbrev S1x358x256 : Shape := ⟨3, ![1, 358, 256]⟩
abbrev S358x256 : Shape := ⟨2, ![358, 256]⟩
abbrev S219x256 : Shape := ⟨2, ![219, 256]⟩
abbrev S1x293x256 : Shape := ⟨3, ![1, 293, 256]⟩
abbrev S293x256 : Shape := ⟨2, ![293, 256]⟩
abbrev S284x256 : Shape := ⟨2, ![284, 256]⟩
abbrev S1x228x256 : Shape := ⟨3, ![1, 228, 256]⟩
abbrev S228x256 : Shape := ⟨2, ![228, 256]⟩
abbrev S349x256 : Shape := ⟨2, ![349, 256]⟩
abbrev S1x163x256 : Shape := ⟨3, ![1, 163, 256]⟩
abbrev S163x256 : Shape := ⟨2, ![163, 256]⟩
abbrev S414x256 : Shape := ⟨2, ![414, 256]⟩
abbrev S1x98x256 : Shape := ⟨3, ![1, 98, 256]⟩
abbrev S98x256 : Shape := ⟨2, ![98, 256]⟩
abbrev S479x256 : Shape := ⟨2, ![479, 256]⟩
abbrev S1x33x256 : Shape := ⟨3, ![1, 33, 256]⟩
abbrev S33x256 : Shape := ⟨2, ![33, 256]⟩

abbrev nBuf : Space → Nat
  | .hbm => 9
  | .vmem => 9
  | .smem => 0
  | _ => 0

abbrev bufTy : (tb : Table) → Fin (tcTables nBuf tb) → BufTy
  | .hbm, ⟨0, _⟩ => ⟨S2x2048x12x64, .f32⟩
  | .hbm, ⟨1, _⟩ => ⟨S2x2048x12x64, .f32⟩
  | .hbm, ⟨2, _⟩ => ⟨S2x2048x12x64, .f32⟩
  | .hbm, ⟨3, _⟩ => ⟨S2x1x2048x2048, .i1⟩
  | .hbm, ⟨4, _⟩ => ⟨S2x2048x768, .f32⟩
  | .hbm, ⟨5, _⟩ => ⟨S2x2048x768, .f32⟩
  | .hbm, ⟨6, _⟩ => ⟨S2x2048x768, .f32⟩
  | .hbm, ⟨7, _⟩ => ⟨S2x2048x768, .f32⟩
  | .hbm, ⟨8, _⟩ => ⟨S2x2048x12x64, .f32⟩
  | .local _ .vmem, ⟨0, _⟩ => ⟨S1x2048x256, .f32⟩
  | .local _ .vmem, ⟨1, _⟩ => ⟨S1x2048x256, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x2048x256, .f32⟩
  | .local _ .vmem, ⟨8, _⟩ => ⟨S512x160, .f32⟩
  | _, _ => ⟨S2x2048x12x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S2x2048x12x64 : Shape := ⟨4, ![2, 2048, 12, 64]⟩
abbrev S2x1x2048x2048 : Shape := ⟨4, ![2, 1, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S2x12x2048x2048 : Shape := ⟨4, ![2, 12, 2048, 2048]⟩
abbrev S1x1x2048x2048 : Shape := ⟨4, ![1, 1, 2048, 2048]⟩
abbrev S2x12x2048 : Shape := ⟨3, ![2, 12, 2048]⟩
abbrev S2x12x2048x1 : Shape := ⟨4, ![2, 12, 2048, 1]⟩
abbrev S2x12x64x2048 : Shape := ⟨4, ![2, 12, 64, 2048]⟩

abbrev nBuf : Space → Nat
  | .hbm => 70
  | .vmem => 0
  | .smem => 0
  | _ => 0

abbrev bufTy : (tb : Table) → Fin (tcTables nBuf tb) → BufTy
  | .hbm, ⟨0, _⟩ => ⟨S2x2048x12x64, .f32⟩
  | .hbm, ⟨1, _⟩ => ⟨S2x2048x12x64, .f32⟩
  | .hbm, ⟨2, _⟩ => ⟨S2x2048x12x64, .f32⟩
  | .hbm, ⟨3, _⟩ => ⟨S2x1x2048x2048, .i1⟩
  | .hbm, ⟨4, _⟩ => ⟨S2048, .i32⟩
  | .hbm, ⟨5, _⟩ => ⟨S2048, .i32⟩
  | .hbm, ⟨6, _⟩ => ⟨S1x2048, .i32⟩
  | .hbm, ⟨7, _⟩ => ⟨S2048x1, .i32⟩
  | .hbm, ⟨8, _⟩ => ⟨S2048x2048, .i32⟩
  | .hbm, ⟨9, _⟩ => ⟨S2048x2048, .i32⟩
  | .hbm, ⟨10, _⟩ => ⟨S2048x2048, .i32⟩
  | .hbm, ⟨11, _⟩ => ⟨S2048x2048, .i32⟩
  | .hbm, ⟨12, _⟩ => ⟨S_, .i32⟩
  | .hbm, ⟨13, _⟩ => ⟨S2048x2048, .i32⟩
  | .hbm, ⟨14, _⟩ => ⟨S2048x2048, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S2048x2048, .i32⟩
  | .hbm, ⟨22, _⟩ => ⟨S2048x2048, .i32⟩
  | .hbm, ⟨23, _⟩ => ⟨S_, .i32⟩
  | .hbm, ⟨24, _⟩ => ⟨S2048x2048, .i32⟩
  | .hbm, ⟨25, _⟩ => ⟨S2048x2048, .i1⟩
  | .hbm, ⟨26, _⟩ => ⟨S_, .i32⟩
  | .hbm, ⟨27, _⟩ => ⟨S2048x2048, .i32⟩
  | .hbm, ⟨28, _⟩ => ⟨S2048x2048, .i1⟩
  | .hbm, ⟨29, _⟩ => ⟨S_, .i32⟩
  | .hbm, ⟨30, _⟩ => ⟨S_, .i1⟩
  | .hbm, ⟨31, _⟩ => ⟨S2048x2048, .i1⟩
  | .hbm, ⟨32, _⟩ => ⟨S2048x2048, .i1⟩
  | .hbm, ⟨33, _⟩ => ⟨S2048x2048, .i1⟩
  | .hbm, ⟨34, _⟩ => ⟨S2048x2048, .i32⟩
  | .hbm, ⟨35, _⟩ => ⟨S2048x2048, .i32⟩
  | .hbm, ⟨36, _⟩ => ⟨S2048x2048, .i32⟩
  | .hbm, ⟨37, _⟩ => ⟨S_, .i32⟩
  | .hbm, ⟨38, _⟩ => ⟨S2048x2048, .i32⟩
  | .hbm, ⟨39, _⟩ => ⟨S2048x2048, .i1⟩
  | .hbm, ⟨40, _⟩ => ⟨S2048x2048, .i1⟩
  | .hbm, ⟨41, _⟩ => ⟨S2048x2048, .f32⟩
  | .hbm, ⟨42, _⟩ => ⟨S2x12x2048x2048, .f32⟩
  | .hbm, ⟨43, _⟩ => ⟨S1x1x2048x2048, .f32⟩
  | .hbm, ⟨44, _⟩ => ⟨S2x12x2048x2048, .f32⟩
  | .hbm, ⟨45, _⟩ => ⟨S2x12x2048x2048, .f32⟩
  | .hbm, ⟨46, _⟩ => ⟨S_, .f32⟩
  | .hbm, ⟨47, _⟩ => ⟨S_, .f32⟩
  | .hbm, ⟨48, _⟩ => ⟨S2x12x2048x2048, .i1⟩
  | .hbm, ⟨49, _⟩ => ⟨S2x12x2048x2048, .f32⟩
  | .hbm, ⟨50, _⟩ => ⟨S2x12x2048x2048, .f32⟩
  | .hbm, ⟨51, _⟩ => ⟨S_, .f32⟩
  | .hbm, ⟨52, _⟩ => ⟨S2x12x2048x2048, .f32⟩
  | .hbm, ⟨53, _⟩ => ⟨S2x12x2048x2048, .f32⟩
  | .hbm, ⟨54, _⟩ => ⟨S_, .f32⟩
  | .hbm, ⟨55, _⟩ => ⟨S2x12x2048, .f32⟩
  | .hbm, ⟨56, _⟩ => ⟨S_, .f32⟩
  | .hbm, ⟨57, _⟩ => ⟨S2x12x2048, .f32⟩
  | .hbm, ⟨58, _⟩ => ⟨S2x12x2048, .f32⟩
  | .hbm, ⟨59, _⟩ => ⟨S2x12x2048x1, .f32⟩
  | .hbm, ⟨60, _⟩ => ⟨S2x12x2048x2048, .f32⟩
  | .hbm, ⟨61, _⟩ => ⟨S2x12x2048x2048, .f32⟩
  | .hbm, ⟨62, _⟩ => ⟨S2x12x2048x2048, .f32⟩
  | .hbm, ⟨63, _⟩ => ⟨S_, .f32⟩
  | .hbm, ⟨64, _⟩ => ⟨S2x12x2048, .f32⟩
  | .hbm, ⟨65, _⟩ => ⟨S2x12x2048x1, .f32⟩
  | .hbm, ⟨66, _⟩ => ⟨S2x12x2048x2048, .f32⟩
  | .hbm, ⟨67, _⟩ => ⟨S2x12x2048x2048, .f32⟩
  | .hbm, ⟨68, _⟩ => ⟨S2x12x64x2048, .f32⟩
  | .hbm, ⟨69, _⟩ => ⟨S2x2048x12x64, .f32⟩
  | _, _ => ⟨S2x2048x12x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_call0_v0 : Ref sig .tc := ⟨.hbm, 16, rfl⟩
abbrev main_call0_c : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_c_1 : Ref sig .tc := ⟨.hbm, 23, rfl⟩
abbrev main_call0_v5 : Ref sig .tc := ⟨.hbm, 24, rfl⟩
abbrev main_call0_v6 : Ref sig .tc := ⟨.hbm, 25, rfl⟩
abbrev main_call0_c_2 : Ref sig .tc := ⟨.hbm, 26, rfl⟩
abbrev main_call0_v7 : Ref sig .tc := ⟨.hbm, 27, rfl⟩
abbrev main_call0_v8 : Ref sig .tc := ⟨.hbm, 28, rfl⟩
abbrev main_call0_c_3 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_v10 : Ref sig .tc := ⟨.hbm, 36, rfl⟩
abbrev main_c_1 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_cst : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v19 : Ref sig .tc := ⟨.hbm, 50, rfl⟩
abbrev main_cst_2 : Ref sig .tc := ⟨.hbm, 51, rfl⟩
abbrev main_v20 : Ref sig .tc := ⟨.hbm, 52, rfl⟩
abbrev main_v21 : Ref sig .tc := ⟨.hbm, 53, rfl⟩
abbrev main_cst_3 : Ref sig .tc := ⟨.hbm, 54, rfl⟩
abbrev main_v22 : Ref sig .tc := ⟨.hbm, 55, rfl⟩
abbrev main_cst_4 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_cst_5 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩

abbrev nD : Nat := 1
abbrev τ : Topo := Topo.v7x

variable {F : FTy → Type} [FloatOps F]
-- ==== Proof.Model.lean ====
/-
  The kernel body written once, over a block number instead of four times unrolled: one recursion over the diagonals
  writes the scores of a block, one recursion sums the weighted shifted values, and a block is the two with the mask
  between them. The program is stated over any signature, so it serves the program as printed and its idealization.
-/
module

public import Idealize.ShloMosaic.Lib.Tactic
public import Idealize.ShloMosaic.Lib.Pipeline.FrameBody

@[expose] public section

noncomputable section

namespace Cert.Sparse

open Idealize.ShloMosaic Idealize.SL.Sem

variable {F : FTy → Type} [FloatOps F]

/-- A matrix shape. -/
abbrev Sh2 (a b : ℕ) : Shape := ⟨2, ![a, b]⟩
/-- A rank-three shape. -/
abbrev Sh3 (a b c : ℕ) : Shape := ⟨3, ![a, b, c]⟩

/-! ## The constant matrices -/

/-- The lower triangle of ones. -/
def tril : FVec F (Sh2 512 512) .f32 :=
  sitofp .f32 (extui 32 (cmpi .sge (iota .tc (Sh2 512 512) 32 [0] (by decide)) (iota .tc (Sh2 512 512) 32 [1] (by decide))) (by decide))

/-- `selI`: lane `c` belongs to head `h`. -/
def selI : IVec (Sh2 256 4) 32 :=
  have a : IVec (Sh2 256 4) 32 := iota .tc (Sh2 256 4) 32 [0] (by decide)
  have h : IVec (Sh2 256 4) 32 := iota .tc (Sh2 256 4) 32 [1] (by decide)
  have q : IVec (Sh2 256 4) 32 := divsi a (broadcast (Sh2 256 4) 64#32)
  have s : IVec (Sh2 256 4) 32 := subi (extui 32 (cmpi .sgt a (broadcast (Sh2 256 4) 0#32)) (by decide))
    (extui 32 (cmpi .slt a (broadcast (Sh2 256 4) 0#32)) (by decide))
  have t : BitVec 32 := Scalar.subi (Scalar.extui (Scalar.cmpi .sgt 64#32 0#32)) (Scalar.extui (Scalar.cmpi .slt 64#32 0#32))
  have u : IVec (Sh2 256 4) 1 := andi (cmpi .ne s (broadcast (Sh2 256 4) t))
    (cmpi .ne (remsi a (broadcast (Sh2 256 4) 64#32)) (broadcast (Sh2 256 4) 0#32))
  extui 32 (cmpi .eq (select u (subi q (broadcast (Sh2 256 4) 1#32)) q) h) (by decide)

/-- The 0/1 matrix taking a lane to its head. -/
def sel : FVec F (Sh2 256 4) .f32 := sitofp .f32 selI
/-- Its transpose, spreading a head's value over its lanes. -/
def selt : FVec F (Sh2 4 256) .f32 := transpose (Sh2 4 256) [1, 0] sel (by decide)

/-- `sumselI`: score lane `l` belongs to head `h`. -/
def sumselI : IVec (Sh2 160 4) 32 :=
  have a : IVec (Sh2 160 4) 32 := iota .tc (Sh2 160 4) 32 [0] (by decide)
  have h : IVec (Sh2 160 4) 32 := iota .tc (Sh2 160 4) 32 [1] (by decide)
  have n : BitVec 32 := Scalar.select (Scalar.cmpi .eq 4#32 0#32) 1#32 4#32
  have r : IVec (Sh2 160 4) 32 := remsi a (broadcast (Sh2 160 4) n)
  have ne : IVec (Sh2 160 4) 1 := cmpi .ne r (broadcast (Sh2 160 4) 0#32)
  have lt : IVec (Sh2 160 4) 1 := cmpi .slt r (broadcast (Sh2 160 4) 0#32)
  have nl : IVec (Sh2 160 4) 1 := broadcastTo (Sh2 160 4) (broadcast (Sh2 160 4) (Scalar.cmpi .slt n 0#32)) (by decide)
  extui 32 (cmpi .eq (select (andi (xori lt nl) ne) (addi r (broadcast (Sh2 160 4) n)) r) h) (by decide)

/-- The 0/1 matrix summing the score lanes of each head. -/
def sumsel : FVec F (Sh2 160 4) .f32 := sitofp .f32 sumselI

/-! ## One block's vectors -/

/-- The diagonal number of each score lane. -/
def didx : IVec (Sh2 512 160) 32 :=
  have a : IVec (Sh2 512 160) 32 := iota .tc (Sh2 512 160) 32 [1] (by decide)
  have q : IVec (Sh2 512 160) 32 := divsi a (broadcast (Sh2 512 160) 4#32)
  have s : IVec (Sh2 512 160) 32 := subi (extui 32 (cmpi .sgt a (broadcast (Sh2 512 160) 0#32)) (by decide))
    (extui 32 (cmpi .slt a (broadcast (Sh2 512 160) 0#32)) (by decide))
  have t : BitVec 32 := Scalar.subi (Scalar.extui (Scalar.cmpi .sgt 4#32 0#32)) (Scalar.extui (Scalar.cmpi .slt 4#32 0#32))
  have u : IVec (Sh2 512 160) 1 := andi (cmpi .ne s (broadcast (Sh2 512 160) t))
    (cmpi .ne (remsi a (broadcast (Sh2 512 160) 4#32)) (broadcast (Sh2 512 160) 0#32))
  select u (subi q (broadcast (Sh2 512 160) 1#32)) q

/-- The distance of each score lane's diagonal. -/
def dval : IVec (Sh2 512 160) 32 :=
  select (cmpi .sle didx (broadcast (Sh2 512 160) 8#32)) didx
    (muli (broadcast (Sh2 512 160) 65#32) (subi didx (broadcast (Sh2 512 160) 8#32)))

/-- Which (row, lane) pairs of block `b` carry a weight. -/
def mask (b : ℕ) : IVec (Sh2 512 160) 1 :=
  andi (cmpi .sge (addi (iota .tc (Sh2 512 160) 32 [0] (by decide)) (broadcast (Sh2 512 160) (BitVec.ofNat 32 (512 * b)))) dval)
    (cmpi .slt didx (broadcast (Sh2 512 160) (BitVec.ofNat 32 (16 + 8 * b))))

/-- The weights of block `b` from its scores. -/
def weights (b : ℕ) (S : FVec F (Sh2 512 160) .f32) : FVec F (Sh2 512 160) .f32 :=
  select (mask b)
    (subf (exp (mulf (broadcast (Sh2 512 160) (Scalar.ofBits .f32 0x3E000000#32)) S))
      (broadcast (Sh2 512 160) (Scalar.ofBits .f32 0x3F800000#32)))
    (broadcast (Sh2 512 160) (Scalar.ofBits .f32 0x00000000#32))

/-- The weights' sum per head, spread over the head's lanes. -/
def denom (W : FVec F (Sh2 512 160) .f32) : FVec F (Sh2 512 256) .f32 :=
  matmul (DotDims.plain 512 4 256) none (matmul (DotDims.plain 512 160 4) none W sumsel (constant (Sh2 512 4) .f32 0x00000000#32)) selt
    (constant (Sh2 512 256) .f32 0x00000000#32)

/-- One diagonal's scores: the products of the queries and the shifted keys summed per head. -/
def score (qb ks : FVec F (Sh2 512 256) .f32) : FVec F (Sh2 512 4) .f32 :=
  matmul (DotDims.plain 512 256 4) none (mulf qb ks) sel (constant (Sh2 512 4) .f32 0x00000000#32)

/-- One diagonal's weights spread over the lanes. -/
def spread (w : FVec F (Sh2 512 4) .f32) : FVec F (Sh2 512 256) .f32 :=
  matmul (DotDims.plain 512 4 256) none w selt (constant (Sh2 512 256) .f32 0x00000000#32)

/-- The running sum of the values down a block, over what the blocks before it left. -/
def prefixSum (vb : FVec F (Sh2 512 256) .f32) (cy : FVec F (Sh2 1 256) .f32) : FVec F (Sh2 512 256) .f32 :=
  addf (matmul (DotDims.plain 512 512 256) none tril vb (constant (Sh2 512 256) .f32 0x00000000#32))
    (broadcastTo (Sh2 512 256) cy (by decide))

/-- The last row of a block's running sum. -/
def lastRow (p : FVec F (Sh2 512 256) .f32) : FVec F (Sh2 1 256) .f32 := extractStridedSlice (Sh2 1 256) ![511, 0] p (by decide)

/-- The block's result: the two sums over the count plus the weights' sum. -/
def quot (b : ℕ) (p num den : FVec F (Sh2 512 256) .f32) : FVec F (Sh2 512 256) .f32 :=
  divf (addf p num) (addf (broadcastTo (Sh2 512 256) (sitofp .f32 (addi (iota .tc (Sh2 512 1) 32 [0] (by decide))
    (broadcast (Sh2 512 1) (BitVec.ofNat 32 (512 * b + 1))))) (by decide)) den)

/-! ## The diagonals -/

/-- The distance of diagonal `j`. -/
def diag (j : ℕ) : ℕ := if j ≤ 8 then j else 65 * (j - 8)

theorem diag_lt {b j : ℕ} (hb : b < 4) (hj : j < 16 + 8 * b) : diag j < 512 * b + 512 := by
  unfold diag; split <;> omega

theorem rows_le {b : ℕ} (hb : b < 4) : ∀ a, (![0, 512 * b, 0] : Fin 3 → ℕ) a + (Sh3 1 512 256).size a ≤ (Sh3 1 2048 256).size a := by
  intro a; fin_cases a <;> simp <;> omega

theorem shift_le {i d : ℕ} (hi : i + 512 ≤ 2048) (n : ℕ) (hn : n ≤ 512) :
    ∀ a, (![0, i - d, 0] : Fin 3 → ℕ) a + (Sh3 1 n 256).size a ≤ (Sh3 1 2048 256).size a := by
  intro a; fin_cases a <;> simp; omega

theorem top_le (n : ℕ) (hn : n ≤ 512) : ∀ a, (![0, 0, 0] : Fin 3 → ℕ) a + (Sh3 1 n 256).size a ≤ (Sh3 1 2048 256).size a := by
  intro a; fin_cases a <;> simp; omega

theorem lane_le {j : ℕ} (hj : j < 40) : ∀ a, (![0, 4 * j] : Fin 2 → ℕ) a + (Sh2 512 4).size a ≤ (Sh2 512 160).size a := by
  intro a; fin_cases a <;> simp; omega

theorem full_le : ∀ a, (![0, 0] : Fin 2 → ℕ) a + (Sh2 512 160).size a ≤ (Sh2 512 160).size a := by decide

theorem pos3 {n : ℕ} (hn : 0 < n) : 0 < (Sh3 1 n 256).numel := by
  simp [Shape.numel, Fin.prod_univ_succ, hn]

theorem pos4 : 0 < (Sh2 512 4).numel := by decide

theorem casts3 (n : ℕ) : (Sh3 1 n 256).ShapeCasts (Sh2 n 256) := by
  simp [Shape.ShapeCasts, Shape.numel, Fin.prod_univ_succ]

theorem casts3' (n : ℕ) : (Sh2 n 256).ShapeCasts (Sh3 1 n 256) := by
  simp [Shape.ShapeCasts, Shape.numel, Fin.prod_univ_succ]

theorem concats {z n : ℕ} (h : z + n = 512) : Shape.Concatenates [Sh2 z 256, Sh2 n 256] (Sh2 512 256) 0 := by
  refine ⟨by simp, ?_, ?_⟩
  · intro s hs
    simp only [List.mem_cons, List.not_mem_nil, or_false] at hs
    rcases hs with rfl | rfl <;> refine ⟨rfl, fun b hb => ?_⟩ <;> fin_cases b <;> simp_all
  · simp [h]

/-- The rectangle of block `b`'s rows. -/
abbrev rowsR {b : ℕ} (hb : b < 4) : Rect (Sh3 1 2048 256) := Rect.unit (s := Sh3 1 2048 256) ![0, 512 * b, 0] (Sh3 1 512 256).size (rows_le hb)
/-- The rectangle of the rows `d` above row `i`. -/
abbrev shiftR {i : ℕ} (d : ℕ) (hi : i + 512 ≤ 2048) : Rect (Sh3 1 2048 256) :=
  Rect.unit (s := Sh3 1 2048 256) ![0, i - d, 0] (Sh3 1 512 256).size (shift_le hi 512 le_rfl)
/-- The rectangle of the first `n` rows. -/
abbrev topR (n : ℕ) (hn : n ≤ 512) : Rect (Sh3 1 2048 256) := Rect.unit (s := Sh3 1 2048 256) ![0, 0, 0] (Sh3 1 n 256).size (top_le n hn)
/-- The rectangle of diagonal `j`'s score lanes. -/
abbrev laneR {j : ℕ} (hj : j < 40) : Rect (Sh2 512 160) := Rect.unit (s := Sh2 512 160) ![0, 4 * j] (Sh2 512 4).size (lane_le hj)
/-- All the score lanes. -/
abbrev fullR : Rect (Sh2 512 160) := Rect.unit (s := Sh2 512 160) ![0, 0] (Sh2 512 160).size full_le

/-! ## The values -/

/-- What a rectangle of an array holds. -/
def rd {s : Shape} {α : Type} (r : Rect s) (X : s.Idx → α) : r.shape.Idx → α := fun i => X (r.emb i)

/-- The rows `d` above row `i`, zero where there is none. -/
def shiftV (X : Vec F (Sh3 1 2048 256) .f32) (i d : ℕ) (hi : i + 512 ≤ 2048) (hd : d < i + 512) : FVec F (Sh2 512 256) .f32 :=
  if h : d ≤ i then shapeCast (Sh2 512 256) (rd (shiftR d hi) X) (casts3 512)
  else concatenate (Sh2 512 256) 0 [⟨Sh2 (d - i) 256, broadcast (Sh2 (d - i) 256) (Scalar.ofBits .f32 0x00000000#32)⟩,
        ⟨Sh2 (512 - (d - i)) 256, shapeCast (Sh2 (512 - (d - i)) 256) (rd (topR (512 - (d - i)) (Nat.sub_le ..)) X) (casts3 _)⟩] (concats (by omega))

/-- The scratch after the scores of `n` diagonals from the `j`-th on. -/
def scoresV (K : Vec F (Sh3 1 2048 256) .f32) (qb : FVec F (Sh2 512 256) .f32) (b : ℕ) (hb : b < 4) :
    (n j : ℕ) → (j + n ≤ 16 + 8 * b) → Vec F (Sh2 512 160) .f32 → Vec F (Sh2 512 160) .f32
  | 0, _, _, S => S
  | n + 1, j, h, S =>
    scoresV K qb b hb n (j + 1) (by omega) ((laneR (j := j) (by omega)).overlay S
      (shapeCast (Sh2 512 4) (score qb (shiftV K (512 * b) (diag j) (by omega) (diag_lt hb (by omega)))) (by decide)))

/-- The weighted values of `n` diagonals from the `j`-th on, added to `acc`. -/
def sumsV (V : Vec F (Sh3 1 2048 256) .f32) (W : Vec F (Sh2 512 160) .f32) (b : ℕ) (hb : b < 4) :
    (n j : ℕ) → (j + n ≤ 16 + 8 * b) → FVec F (Sh2 512 256) .f32 → FVec F (Sh2 512 256) .f32
  | 0, _, _, acc => acc
  | n + 1, j, h, acc =>
    sumsV V W b hb n (j + 1) (by omega) (addf acc (mulf (spread (F := F) (rd (laneR (j := j) (by omega)) W))
      (shiftV V (512 * b) (diag j) (by omega) (diag_lt hb (by omega)))))

/-- Block `b`'s weights, from what the scratch held before it. -/
def weightsV (Q K : Vec F (Sh3 1 2048 256) .f32) (b : ℕ) (hb : b < 4) (S : Vec F (Sh2 512 160) .f32) : FVec F (Sh2 512 160) .f32 :=
  weights b (scoresV K (shapeCast (Sh2 512 256) (rd (rowsR hb) Q) (casts3 512)) b hb (16 + 8 * b) 0 (by omega) S)

/-- Block `b`'s running sum. -/
def prefixV (V : Vec F (Sh3 1 2048 256) .f32) (b : ℕ) (hb : b < 4) (cy : FVec F (Sh2 1 256) .f32) : FVec F (Sh2 512 256) .f32 :=
  prefixSum (shapeCast (Sh2 512 256) (rd (rowsR hb) V) (casts3 512)) cy

/-- Block `b`'s sum of weighted values. -/
def numV (V : Vec F (Sh3 1 2048 256) .f32) (b : ℕ) (hb : b < 4) (W : FVec F (Sh2 512 160) .f32) : FVec F (Sh2 512 256) .f32 :=
  sumsV V W b hb (15 + 8 * b) 1 (by omega) (addf (broadcast (Sh2 512 256) (Scalar.ofBits .f32 0x00000000#32))
    (mulf (spread (F := F) (rd (laneR (j := 0) (by decide)) W)) (shapeCast (Sh2 512 256) (rd (rowsR hb) V) (casts3 512))))

/-- Block `b`'s result from its weights and the carry. -/
def outV (V : Vec F (Sh3 1 2048 256) .f32) (b : ℕ) (hb : b < 4) (cy : FVec F (Sh2 1 256) .f32) (W : FVec F (Sh2 512 160) .f32) :
    FVec F (Sh3 1 512 256) .f32 :=
  shapeCast (Sh3 1 512 256) (quot b (prefixV V b hb cy) (numV V b hb W) (denom W)) (casts3' 512)

/-- The carry into block `b`. -/
def carryV (V : Vec F (Sh3 1 2048 256) .f32) : (b : ℕ) → b ≤ 4 → FVec F (Sh2 1 256) .f32
  | 0, _ => broadcast (Sh2 1 256) (Scalar.ofBits .f32 0x00000000#32)
  | b + 1, h => lastRow (prefixV V b h (carryV V b (by omega)))

/-! ## The program -/

section Prog

variable {nD : ℕ} {τ : Topo} {sig : RefSig} {Λ : Labels} {α : Type}

/-- A program of one core. -/
abbrev PR (F : FTy → Type) (nD : ℕ) (τ : Topo) (sig : RefSig) (Λ : Labels) (α : Type) : Type 1 := Prog (TpuEff nD τ sig (Elt F) Λ .tc) α

/-- A window's block. -/
abbrev Win (sig : RefSig) : Type := Memref sig .tc .vmem (Sh3 1 2048 256) .f32
/-- The score scratch. -/
abbrev Scr (sig : RefSig) : Type := Memref sig .tc .vmem (Sh2 512 160) .f32

/-- Load a rectangle of a window. -/
def ldW (X : Win sig) (r : Rect (Sh3 1 2048 256)) (h : 0 < r.shape.numel) (k : Vec F r.shape .f32 → PR F nD τ sig Λ α) : PR F nD τ sig Λ α :=
  .op (.load X r.toLoadRect (View.loadsAt_vmem h)) k
/-- Store a rectangle of a window. -/
def stW (X : Win sig) (r : Rect (Sh3 1 2048 256)) (h : 0 < r.shape.numel) (w : Vec F r.shape .f32) (hm : ∀ a, r.stride a = 1)
    (k : PR F nD τ sig Λ α) : PR F nD τ sig Λ α :=
  .op (.store X r w Finset.univ (View.stores_vmem_bits_univ h rfl) (.inl rfl)) fun _ => k
/-- Load a rectangle of the scratch. -/
def ldS (X : Scr sig) (r : Rect (Sh2 512 160)) (h : 0 < r.shape.numel) (k : Vec F r.shape .f32 → PR F nD τ sig Λ α) : PR F nD τ sig Λ α :=
  .op (.load X r.toLoadRect (View.loadsAt_vmem h)) k
/-- Store a rectangle of the scratch. -/
def stS (X : Scr sig) (r : Rect (Sh2 512 160)) (h : 0 < r.shape.numel) (w : Vec F r.shape .f32) (hm : ∀ a, r.stride a = 1)
    (k : PR F nD τ sig Λ α) : PR F nD τ sig Λ α :=
  .op (.store X r w Finset.univ (View.stores_vmem_bits_univ h rfl) (.inl rfl)) fun _ => k

/-- The rows `d` above row `i`, zero where there is none. -/
def shiftP (X : Win sig) (i d : ℕ) (hi : i + 512 ≤ 2048) (hd : d < i + 512) (k : FVec F (Sh2 512 256) .f32 → PR F nD τ sig Λ α) : PR F nD τ sig Λ α :=
  if h : d ≤ i then
    ldW X (shiftR d hi) (pos3 (by decide)) fun x => k (shapeCast (Sh2 512 256) x (casts3 512))
  else
    ldW X (topR (512 - (d - i)) (Nat.sub_le ..)) (pos3 (by omega)) fun x =>
      k (concatenate (Sh2 512 256) 0 [⟨Sh2 (d - i) 256, broadcast (Sh2 (d - i) 256) (Scalar.ofBits .f32 0x00000000#32)⟩,
        ⟨Sh2 (512 - (d - i)) 256, shapeCast (Sh2 (512 - (d - i)) 256) x (casts3 _)⟩] (concats (by omega)))

/-- The scores of `n` diagonals from the `j`-th on, each stored in its lanes. -/
def scoresP (K : Win sig) (S : Scr sig) (qb : FVec F (Sh2 512 256) .f32) (b : ℕ) (hb : b < 4) :
    (n j : ℕ) → (j + n ≤ 16 + 8 * b) → PR F nD τ sig Λ α → PR F nD τ sig Λ α
  | 0, _, _, k => k
  | n + 1, j, h, k =>
    shiftP K (512 * b) (diag j) (by omega) (diag_lt hb (by omega)) fun ks =>
      ldS S (laneR (j := j) (by omega)) pos4 fun _ =>
        stS S (laneR (j := j) (by omega)) pos4 (shapeCast (Sh2 512 4) (score qb ks) (by decide)) (fun _ => rfl)
          (scoresP K S qb b hb n (j + 1) (by omega) k)

/-- The weighted values of `n` diagonals from the `j`-th on, added to `acc`. -/
def sumsP (V : Win sig) (S : Scr sig) (b : ℕ) (hb : b < 4) :
    (n j : ℕ) → (j + n ≤ 16 + 8 * b) → FVec F (Sh2 512 256) .f32 → (FVec F (Sh2 512 256) .f32 → PR F nD τ sig Λ α) → PR F nD τ sig Λ α
  | 0, _, _, acc, k => k acc
  | n + 1, j, h, acc, k =>
    ldS S (laneR (j := j) (by omega)) pos4 fun w =>
      shiftP V (512 * b) (diag j) (by omega) (diag_lt hb (by omega)) fun vs =>
        sumsP V S b hb n (j + 1) (by omega) (addf acc (mulf (spread w) vs)) k

/-- One block of 512 rows, from the carry of the blocks before it to its own. -/
def blockP (Q K V O : Win sig) (S : Scr sig) (b : ℕ) (hb : b < 4) (cy : FVec F (Sh2 1 256) .f32)
    (k : FVec F (Sh2 1 256) .f32 → PR F nD τ sig Λ α) : PR F nD τ sig Λ α :=
  ldW Q (rowsR hb) (pos3 (by decide)) fun q =>
  ldW V (rowsR hb) (pos3 (by decide)) fun v =>
  scoresP K S (shapeCast (Sh2 512 256) q (casts3 512)) b hb (16 + 8 * b) 0 (by omega) <|
  ldS S fullR (by decide) fun s =>
  ldS S fullR (by decide) fun _ =>
  stS S fullR (by decide) (shapeCast (Sh2 512 160) (weights b s) (by decide)) (fun _ => rfl) <|
  ldS S (laneR (j := 0) (by decide)) (by decide) fun w0 =>
  sumsP V S b hb (15 + 8 * b) 1 (by omega)
    (addf (broadcast (Sh2 512 256) (Scalar.ofBits .f32 0x00000000#32)) (mulf (spread w0) (shapeCast (Sh2 512 256) v (casts3 512)))) fun num =>
  ldW O (rowsR hb) (pos3 (by decide)) fun _ =>
  stW O (rowsR hb) (pos3 (by decide))
    (shapeCast (Sh3 1 512 256) (quot b (prefixSum (shapeCast (Sh2 512 256) v (casts3 512)) cy) num (denom (weights b s))) (casts3' 512)) (fun _ => rfl) <|
  k (lastRow (prefixSum (shapeCast (Sh2 512 256) v (casts3 512)) cy))

/-- The four blocks in order. -/
def bodyP (Q K V O : Win sig) (S : Scr sig) : PR F nD τ sig Λ PUnit :=
  blockP Q K V O S 0 (by decide) (broadcast (Sh2 1 256) (Scalar.ofBits .f32 0x00000000#32)) fun c1 =>
  blockP Q K V O S 1 (by decide) c1 fun c2 =>
  blockP Q K V O S 2 (by decide) c2 fun c3 =>
  blockP Q K V O S 3 (by decide) c3 fun _ => .ret ⟨⟩

end Prog

end Cert.Sparse

end
-- ==== Proof.At.lean ====
/-
  The kernel's vectors read at an index: which score lane belongs to which diagonal, which (row, lane) pairs carry a
  weight, what the scratch holds after the scores, which row a shifted block reads.
-/
module

public import proofs.«01_k».proof.Proof.Model
public import Idealize.ShloMosaic.Lib.ValueIdxCore
public import Idealize.ShloMosaic.Lib.ValueLayout
public import Idealize.ShloMosaic.Lib.WordCmp
public import Idealize.ShloMosaic.Lib.WritesUnit
public import Idealize.ShloMosaic.Lib.Pipeline.Value

@[expose] public section

noncomputable section

namespace Cert.Sparse

open Idealize.ShloMosaic Idealize.ShloMosaic.ValueIdx Idealize.ShloMosaic.WordCmp

variable {F : FTy → Type} [FloatOps F]

/-- A cast of a vector to its own shape is the vector. -/
theorem castSelf {s : Shape} {α : Type} (x : s.Idx → α) (h : s.ShapeCasts s) : shapeCast s x h = x :=
  funext fun j => congrArg x (Shape.reshapeEquiv_self h j)

/-! ## Words -/

/-- The floor division by four of a lane number, as the kernel spells it, is the natural one. -/
theorem didx_at (r : Fin 512) (l : Fin 160) : didx (ix2 r l) = BitVec.ofNat 32 (l.val / 4) := by
  have h : ∀ l : Fin 160, didx (ix2 (0 : Fin 512) l) = BitVec.ofNat 32 (l.val / 4) := by decide +kernel
  exact h l

/-- The distance of a lane's diagonal. -/
theorem dval_at (r : Fin 512) (l : Fin 160) : dval (ix2 r l) = BitVec.ofNat 32 (diag (l.val / 4)) := by
  have h : ∀ l : Fin 160, dval (ix2 (0 : Fin 512) l) = BitVec.ofNat 32 (diag (l.val / 4)) := by decide +kernel
  exact h l

theorem diag_le (j : ℕ) (h : j < 40) : diag j ≤ 2015 := by unfold diag; split <;> omega

/-- A weight is carried where the diagonal is one of the block's and does not reach above the first row. -/
theorem mask_at {b : ℕ} (hb : b < 4) (r : Fin 512) (l : Fin 160) :
    mask b (ix2 r l) = 1#1 ↔ diag (l.val / 4) ≤ 512 * b + r.val ∧ l.val / 4 < 16 + 8 * b := by
  have hl := l.isLt
  have hr := r.isLt
  have hd := diag_le (l.val / 4) (by omega)
  show IntOp.andi (IntOp.cmpi .sge (BitVec.ofNat 32 (0 * 512 + r.val) + BitVec.ofNat 32 (512 * b)) (dval (ix2 r l)))
    (IntOp.cmpi .slt (didx (ix2 r l)) (BitVec.ofNat 32 (16 + 8 * b))) = 1#1 ↔ _
  rw [didx_at, dval_at, ← BitVec.ofNat_add, cmpi_sge_ofNat (by omega) (by omega), cmpi_slt_ofNat (by omega) (by omega), andi_ofBool,
    ofBool_eq_one_iff, Bool.and_eq_true, decide_eq_true_iff, decide_eq_true_iff]
  rw [show 0 * 512 + r.val + 512 * b = 512 * b + r.val by omega]

/-! ## The scratch after the scores -/

/-- A write to one diagonal's lanes, read in them. -/
theorem overlay_lane {α : Type} {j : ℕ} (hj : j < 40) (B : (Sh2 512 160).Idx → α) (w : (Sh2 512 4).Idx → α) (r : Fin 512) (l : Fin 160)
    (h : l.val / 4 = j) : (laneR hj).overlay B w (ix2 r l) = w (ix2 r ⟨l.val % 4, Nat.mod_lt _ (by decide)⟩) := by
  have e : (laneR hj).emb (ix2 r ⟨l.val % 4, Nat.mod_lt _ (by decide)⟩ : (Sh2 512 4).Idx) = ix2 r l := by
    funext a; apply Fin.ext
    match a with
    | ⟨0, _⟩ => show 0 + 1 * r.val = r.val; omega
    | ⟨1, _⟩ => show 4 * j + 1 * (l.val % 4) = l.val; omega
  rw [← e]
  exact Rect.overlay_emb (laneR hj) B w _

/-- The same, read outside them. -/
theorem overlay_lane_ne {α : Type} {j : ℕ} (hj : j < 40) (B : (Sh2 512 160).Idx → α) (w : (Sh2 512 4).Idx → α) (r : Fin 512) (l : Fin 160)
    (h : l.val / 4 ≠ j) : (laneR hj).overlay B w (ix2 r l) = B (ix2 r l) := by
  refine Rect.overlay_of_not_mem (laneR hj) B w fun hm => ?_
  have := (Rect.mem_set_unit.mp hm) 1
  change 4 * j ≤ l.val ∧ l.val < 4 * j + 4 at this
  omega

/-- Lanes before the written ones hold what they held. -/
theorem scores_before (K : Vec F (Sh3 1 2048 256) .f32) (qb : FVec F (Sh2 512 256) .f32) {b : ℕ} (hb : b < 4) (r : Fin 512) (l : Fin 160) :
    ∀ (n j : ℕ) (h : j + n ≤ 16 + 8 * b) (B : Vec F (Sh2 512 160) .f32), l.val / 4 < j → scoresV K qb b hb n j h B (ix2 r l) = B (ix2 r l)
  | 0, _, _, _, _ => rfl
  | n + 1, j, h, B, hl => by
    rw [scoresV, scores_before K qb hb r l n (j + 1) _ _ (by omega)]
    exact overlay_lane_ne _ _ _ r l (by omega)

/-- The written lanes hold their diagonal's scores. -/
theorem scores_at (K : Vec F (Sh3 1 2048 256) .f32) (qb : FVec F (Sh2 512 256) .f32) {b : ℕ} (hb : b < 4) (r : Fin 512) (l : Fin 160)
    (hn : l.val / 4 < 16 + 8 * b) :
    ∀ (n j : ℕ) (h : j + n ≤ 16 + 8 * b) (B : Vec F (Sh2 512 160) .f32), j ≤ l.val / 4 → l.val / 4 < j + n →
      scoresV K qb b hb n j h B (ix2 r l)
        = score qb (shiftV K (512 * b) (diag (l.val / 4)) (by omega) (diag_lt hb hn)) (ix2 r ⟨l.val % 4, Nat.mod_lt _ (by decide)⟩)
  | 0, j, h, B, h1, h2 => by omega
  | n + 1, j, h, B, h1, h2 => by
    rw [scoresV]
    by_cases e : l.val / 4 = j
    · rw [scores_before K qb hb r l n (j + 1) _ _ (by omega)]
      refine (overlay_lane _ _ _ r l e).trans ?_
      rw [castSelf]
      subst e
      rfl
    · exact scores_at K qb hb r l hn n (j + 1) _ _ (by omega) (by omega)

/-- A weight at an index. -/
theorem weights_at {b : ℕ} (hb : b < 4) (S : FVec F (Sh2 512 160) .f32) (r : Fin 512) (l : Fin 160) :
    weights b S (ix2 r l) = if diag (l.val / 4) ≤ 512 * b + r.val ∧ l.val / 4 < 16 + 8 * b then
      FloatOps.subf (FloatOps.exp (FloatOps.mulf (Scalar.ofBits .f32 0x3E000000#32) (S (ix2 r l)))) (Scalar.ofBits .f32 0x3F800000#32)
      else Scalar.ofBits .f32 0x00000000#32 :=
  if_congr (mask_at hb r l) rfl rfl

/-- A block's weights hang on its scores, not on what the scratch held before. -/
theorem weights_fresh (Q K : Vec F (Sh3 1 2048 256) .f32) (b : ℕ) (hb : b < 4) (B B' : Vec F (Sh2 512 160) .f32) :
    weightsV Q K b hb B = weightsV Q K b hb B' := by
  have h : ∀ (r : Fin 512) (l : Fin 160), weightsV Q K b hb B (ix2 r l) = weightsV Q K b hb B' (ix2 r l) := fun r l => by
    unfold weightsV
    rw [weights_at hb, weights_at hb]
    split
    · rename_i hl
      rw [scores_at K _ hb r l hl.2 _ _ _ B (Nat.zero_le _) (by omega), scores_at K _ hb r l hl.2 _ _ _ B' (Nat.zero_le _) (by omega)]
    · rfl
  funext i
  rw [eq_ix2 i]
  exact h (i 0) (i 1)

end Cert.Sparse

end
-- ==== Proof.Wp.lean ====
/-
  What the kernel body does to the memory it is given: from its windows held at any contents it ends with the inputs as
  they were and the output window written block by block.
-/
module

public import proofs.«01_k».proof.Proof.At
public import Idealize.ShloMosaic.Lib.Memref
public import Idealize.ShloMosaic.Rules.Step
public import Idealize.ShloMosaic.Lib.VecWindow

@[expose] public section

noncomputable section

namespace Cert.Sparse

open Idealize.SL
open Idealize.SL.RA Idealize.SL.Sem Idealize.SL.ProofMode
open Idealize.SL.BI (sProp)
open scoped Idealize.SL.BI
open Idealize.SL.BI.BIBase Idealize.SL.BI.Laws
open Idealize.ShloMosaic

variable {F : FTy → Type} [FloatOps F]
variable {nD : ℕ} {τ : Topo} {sig : RefSig} {Λ : Labels} {U : Type} [URA U] {α : Type}

local notation "𝕄" => MT nD τ sig Unit (Elt F) ℕ U ℕ

variable {defs : Defs nD τ sig (Elt F) Λ} (𝒱 : Variants) (c : Dev nD) {bd : Option 𝒱.V} {E : Set ℕ} {Ψ : α → sProp (MT nD τ sig Unit (Elt F) ℕ U ℕ)}

/-- Loading a rectangle of a held memref. -/
theorem wp_ld {s : Shape} {m : Memref sig .tc .vmem s .f32} {r : Rect s} {hl : m.view.LoadsAt r.toLoadRect}
    {k : Vec F r.shape .f32 → PR F nD τ sig Λ α} {X : Vec F s .f32} :
    (owns c.tc m fullShare X : sProp 𝕄)
      ⊢ iprop((owns c.tc m fullShare X -∗ wp frame (wpE defs 𝒱 c.tc bd) E (k (rd r X)) Ψ)
        -∗ wp frame (wpE defs 𝒱 c.tc bd) E (.op (.load m r.toLoadRect hl) k) Ψ) := by
  unfold owns
  iintro ⟨%f, %hf, H⟩ Hk
  subst hf
  iapply (wp_load_rect (defs := defs) 𝒱 c.tc bd E (m := m) (r := r) (hl := hl) (k := k) (f := f) (q := fullShare) (Q := _)
    (View.set_slice_subset (v := m.view) r)) $$ H
  iintro H
  iapply Hk
  iexists f; isplitr
  · ipureintro; rfl
  · iexact H

/-- Storing a rectangle of a held memref. -/
theorem wp_st {s : Shape} {m : Memref sig .tc .vmem s .f32} {r : Rect s} {w : Vec F r.shape .f32}
    {hx : (m.access r).Stores Finset.univ} {hm : Finset.univ = Finset.univ ∨ ∀ a, r.stride a = 1}
    {k : PUnit → PR F nD τ sig Λ α} {X : Vec F s .f32} :
    (owns c.tc m fullShare X : sProp 𝕄)
      ⊢ iprop((owns c.tc m fullShare (r.overlay X w) -∗ wp frame (wpE defs 𝒱 c.tc bd) E (k ⟨⟩) Ψ)
        -∗ wp frame (wpE defs 𝒱 c.tc bd) E (.op (.store m r w Finset.univ hx hm) k) Ψ) := by
  unfold owns
  iintro ⟨%f, %hf, H⟩ Hk
  subst hf
  iapply (wp_store (defs := defs) 𝒱 c.tc bd E (m := m) (r := r) (w := w) (Mk := Finset.univ) (hx := hx) (hm := hm) (k := k) (f := f) (Q := _)
    (S := m.view.set) (by rw [View.setOn_univ]; exact View.set_slice_subset (v := m.view) r)) $$ H
  iintro H
  iapply Hk
  iexists _; isplitr
  rotate_left
  · iexact H
  · ipureintro
    funext y
    by_cases hy : y ∈ r.set
    · obtain ⟨x, rfl⟩ := r.exists_idx_of_mem hy
      refine Eq.trans ?_ (Rect.overlay_emb r _ w x).symm
      exact View.read_slice_write_emb r f w (Finset.mem_univ x)
    · rw [Rect.overlay_of_not_mem _ _ _ hy]
      exact View.read_slice_write_of_not_mem r f w Finset.univ (by rw [Rect.map_emb_univ]; exact hy)

/-- The same for a load from a window. -/
theorem wp_ldW {X : Win sig} {r : Rect (Sh3 1 2048 256)} {h : 0 < r.shape.numel} {k : Vec F r.shape .f32 → PR F nD τ sig Λ α} {A : Vec F (Sh3 1 2048 256) .f32} :
    (owns c.tc X fullShare A : sProp 𝕄)
      ⊢ iprop((owns c.tc X fullShare A -∗ wp frame (wpE defs 𝒱 c.tc bd) E (k (rd r A)) Ψ)
        -∗ wp frame (wpE defs 𝒱 c.tc bd) E (ldW X r h k) Ψ) := wp_ld (k := k) 𝒱 c

/-- The same for a load from the scratch. -/
theorem wp_ldS {X : Scr sig} {r : Rect (Sh2 512 160)} {h : 0 < r.shape.numel} {k : Vec F r.shape .f32 → PR F nD τ sig Λ α} {A : Vec F (Sh2 512 160) .f32} :
    (owns c.tc X fullShare A : sProp 𝕄)
      ⊢ iprop((owns c.tc X fullShare A -∗ wp frame (wpE defs 𝒱 c.tc bd) E (k (rd r A)) Ψ)
        -∗ wp frame (wpE defs 𝒱 c.tc bd) E (ldS X r h k) Ψ) := wp_ld (k := k) 𝒱 c

/-- The same for a store to a window. -/
theorem wp_stW {X : Win sig} {r : Rect (Sh3 1 2048 256)} {h : 0 < r.shape.numel} {w : Vec F r.shape .f32} {hm : ∀ a, r.stride a = 1}
    {k : PR F nD τ sig Λ α} {A : Vec F (Sh3 1 2048 256) .f32} :
    (owns c.tc X fullShare A : sProp 𝕄)
      ⊢ iprop((owns c.tc X fullShare (r.overlay A w) -∗ wp frame (wpE defs 𝒱 c.tc bd) E k Ψ)
        -∗ wp frame (wpE defs 𝒱 c.tc bd) E (stW X r h w hm k) Ψ) := wp_st (k := fun _ => k) 𝒱 c

/-- The same for a store to the scratch. -/
theorem wp_stS {X : Scr sig} {r : Rect (Sh2 512 160)} {h : 0 < r.shape.numel} {w : Vec F r.shape .f32} {hm : ∀ a, r.stride a = 1}
    {k : PR F nD τ sig Λ α} {A : Vec F (Sh2 512 160) .f32} :
    (owns c.tc X fullShare A : sProp 𝕄)
      ⊢ iprop((owns c.tc X fullShare (r.overlay A w) -∗ wp frame (wpE defs 𝒱 c.tc bd) E k Ψ)
        -∗ wp frame (wpE defs 𝒱 c.tc bd) E (stS X r h w hm k) Ψ) := wp_st (k := fun _ => k) 𝒱 c

/-- The shifted rows are read, the window as it was. -/
theorem wp_shift {X : Win sig} {i d : ℕ} {hi : i + 512 ≤ 2048} {hd : d < i + 512} {k : FVec F (Sh2 512 256) .f32 → PR F nD τ sig Λ α}
    {A : Vec F (Sh3 1 2048 256) .f32} :
    (owns c.tc X fullShare A : sProp 𝕄)
      ⊢ iprop((owns c.tc X fullShare A -∗ wp frame (wpE defs 𝒱 c.tc bd) E (k (shiftV A i d hi hd)) Ψ)
        -∗ wp frame (wpE defs 𝒱 c.tc bd) E (shiftP X i d hi hd k) Ψ) := by
  unfold shiftP shiftV
  split
  · exact wp_ldW (k := fun x => k (shapeCast (Sh2 512 256) x (casts3 512))) 𝒱 c
  · exact wp_ldW (k := fun x => k (concatenate (Sh2 512 256) 0 [⟨Sh2 (d - i) 256, broadcast (Sh2 (d - i) 256) (Scalar.ofBits .f32 0x00000000#32)⟩,
        ⟨Sh2 (512 - (d - i)) 256, shapeCast (Sh2 (512 - (d - i)) 256) x (casts3 _)⟩] (concats (by omega)))) 𝒱 c

/-- The scores of `n` diagonals are written to the scratch. -/
theorem wp_scores {K : Win sig} {S : Scr sig} {qb : FVec F (Sh2 512 256) .f32} {b : ℕ} {hb : b < 4} {A : Vec F (Sh3 1 2048 256) .f32}
    {k : PR F nD τ sig Λ α} : ∀ (n j : ℕ) (h : j + n ≤ 16 + 8 * b) (B : Vec F (Sh2 512 160) .f32),
    (iprop(owns c.tc K fullShare A ∗ owns c.tc S fullShare B) : sProp 𝕄)
      ⊢ iprop((owns c.tc K fullShare A -∗ owns c.tc S fullShare (scoresV A qb b hb n j h B) -∗ wp frame (wpE defs 𝒱 c.tc bd) E k Ψ)
        -∗ wp frame (wpE defs 𝒱 c.tc bd) E (scoresP K S qb b hb n j h k) Ψ)
  | 0, j, h, B => by
    unfold scoresP scoresV
    iintro ⟨HK, HS⟩ Hk
    iapply Hk $$ HK HS
  | n + 1, j, h, B => by
    unfold scoresP scoresV
    iintro ⟨HK, HS⟩ Hk
    iapply (wp_shift 𝒱 c) $$ HK
    iintro HK
    iapply (wp_ldS 𝒱 c) $$ HS
    iintro HS
    iapply (wp_stS 𝒱 c) $$ HS
    iintro HS
    iapply (wp_scores n (j + 1) _ _) $$ [HK HS]
    · isplitl [HK]; · iexact HK
      iexact HS
    iexact Hk

/-- The weighted values of `n` diagonals are summed. -/
theorem wp_sums {V : Win sig} {S : Scr sig} {b : ℕ} {hb : b < 4} {A : Vec F (Sh3 1 2048 256) .f32} {B : Vec F (Sh2 512 160) .f32}
    {k : FVec F (Sh2 512 256) .f32 → PR F nD τ sig Λ α} : ∀ (n j : ℕ) (h : j + n ≤ 16 + 8 * b) (acc : FVec F (Sh2 512 256) .f32),
    (iprop(owns c.tc V fullShare A ∗ owns c.tc S fullShare B) : sProp 𝕄)
      ⊢ iprop((owns c.tc V fullShare A -∗ owns c.tc S fullShare B -∗ wp frame (wpE defs 𝒱 c.tc bd) E (k (sumsV A B b hb n j h acc)) Ψ)
        -∗ wp frame (wpE defs 𝒱 c.tc bd) E (sumsP V S b hb n j h acc k) Ψ)
  | 0, j, h, acc => by
    unfold sumsP sumsV
    iintro ⟨HV, HS⟩ Hk
    iapply Hk $$ HV HS
  | n + 1, j, h, acc => by
    unfold sumsP sumsV
    iintro ⟨HV, HS⟩ Hk
    iapply (wp_ldS 𝒱 c) $$ HS
    iintro HS
    iapply (wp_shift 𝒱 c) $$ HV
    iintro HV
    iapply (wp_sums n (j + 1) _ _) $$ [HV HS]
    · isplitl [HV]; · iexact HV
      iexact HS
    iexact Hk

/-- Overwriting the whole scratch leaves what was written. -/
theorem overlay_full (B W : Vec F (Sh2 512 160) .f32) : fullR.overlay B W = W := by
  funext j
  have h : fullR.emb j = j := Rect.emb_unit_full (s := Sh2 512 160) full_le j
  conv_lhs => rw [← h]
  exact Rect.overlay_emb fullR B W j

/-- Reading the whole scratch reads it all. -/
theorem rd_full (B : Vec F (Sh2 512 160) .f32) : rd fullR B = B := by
  funext j
  exact congrArg B (Rect.emb_unit_full (s := Sh2 512 160) full_le j)

/-- What block `b` stores, from the inputs alone. -/
def resV (Q K V : Vec F (Sh3 1 2048 256) .f32) (b : ℕ) (hb : b < 4) : FVec F (Sh3 1 512 256) .f32 :=
  outV V b hb (carryV V b hb.le) (weightsV Q K b hb (broadcast (Sh2 512 160) (Scalar.ofBits .f32 0x00000000#32)))

/-- The output window after the first `n` blocks, over what it held. -/
def outsV (Q K V : Vec F (Sh3 1 2048 256) .f32) (O : Vec F (Sh3 1 2048 256) .f32) : (n : ℕ) → n ≤ 4 → Vec F (Sh3 1 2048 256) .f32
  | 0, _ => O
  | n + 1, h => (rowsR (b := n) h).overlay (outsV Q K V O n (by omega)) (resV Q K V n h)

/-- One block is written to the output window. -/
theorem wp_block {mQ mK mV mO : Win sig} {mS : Scr sig} {b : ℕ} {hb : b < 4} {q k v o : Vec F (Sh3 1 2048 256) .f32}
    {kk : FVec F (Sh2 1 256) .f32 → PR F nD τ sig Λ α} :
    (iprop(owns c.tc mQ fullShare q ∗ owns c.tc mK fullShare k ∗ owns c.tc mV fullShare v ∗ owns c.tc mO fullShare (outsV q k v o b hb.le)
        ∗ (∃ s, owns c.tc mS fullShare s)) : sProp 𝕄)
      ⊢ iprop((owns c.tc mQ fullShare q -∗ owns c.tc mK fullShare k -∗ owns c.tc mV fullShare v
          -∗ owns c.tc mO fullShare (outsV q k v o (b + 1) hb) -∗ (∃ s, owns c.tc mS fullShare s)
          -∗ wp frame (wpE defs 𝒱 c.tc bd) E (kk (carryV v (b + 1) hb)) Ψ)
        -∗ wp frame (wpE defs 𝒱 c.tc bd) E (blockP mQ mK mV mO mS b hb (carryV v b hb.le) kk) Ψ) := by
  unfold blockP
  iintro ⟨HQ, HK, HV, HO, ⟨%s, HS⟩⟩ Hk
  iapply (wp_ldW 𝒱 c) $$ HQ
  iintro HQ
  iapply (wp_ldW 𝒱 c) $$ HV
  iintro HV
  iapply (wp_scores 𝒱 c _ _ _ _) $$ [HK HS]
  · isplitl [HK]; · iexact HK
    iexact HS
  iintro HK HS
  iapply (wp_ldS 𝒱 c) $$ HS
  iintro HS
  iapply (wp_ldS 𝒱 c) $$ HS
  iintro HS
  iapply (wp_stS 𝒱 c) $$ HS
  iintro HS
  rw [overlay_full, rd_full, castSelf]
  iapply (wp_ldS 𝒱 c) $$ HS
  iintro HS
  iapply (wp_sums 𝒱 c _ _ _ _) $$ [HV HS]
  · isplitl [HV]; · iexact HV
    iexact HS
  iintro HV HS
  iapply (wp_ldW 𝒱 c) $$ HO
  iintro HO
  iapply (wp_stW 𝒱 c) $$ HO
  iintro HO
  iapply Hk $$ HQ HK HV [HO] [HS]
  · rw [show outsV q k v o (b + 1) hb = (rowsR hb).overlay (outsV q k v o b hb.le) (outV v b hb (carryV v b hb.le) (weightsV q k b hb s)) by
      rw [outsV, resV, weights_fresh q k b hb s]]
    unfold outV numV prefixV weightsV
    iexact HO
  · iexists _; iexact HS

/-- The whole body: the inputs as they were, the output the four blocks. -/
theorem wp_body {mQ mK mV mO : Win sig} {mS : Scr sig} {q k v o : Vec F (Sh3 1 2048 256) .f32}
    {Ψ : PUnit → sProp (MT nD τ sig Unit (Elt F) ℕ U ℕ)} :
    (iprop(owns c.tc mQ fullShare q ∗ owns c.tc mK fullShare k ∗ owns c.tc mV fullShare v ∗ owns c.tc mO fullShare o
        ∗ (∃ s, owns c.tc mS fullShare s)) : sProp 𝕄)
      ⊢ iprop((owns c.tc mQ fullShare q -∗ owns c.tc mK fullShare k -∗ owns c.tc mV fullShare v
          -∗ owns c.tc mO fullShare (outsV q k v o 4 le_rfl) -∗ (∃ s, owns c.tc mS fullShare s) -∗ Ψ ⟨⟩)
        -∗ wp frame (wpE defs 𝒱 c.tc bd) E (bodyP mQ mK mV mO mS) Ψ) := by
  unfold bodyP
  iintro ⟨HQ, HK, HV, HO, HS⟩ Hk
  iapply (wp_block (b := 0) (q := q) (k := k) (v := v) (o := o) 𝒱 c) $$ [HQ HK HV HO HS]
  · isplitl [HQ]; · iexact HQ
    isplitl [HK]; · iexact HK
    isplitl [HV]; · iexact HV
    isplitl [HO]; · iexact HO
    iexact HS
  iintro HQ HK HV HO HS
  iapply (wp_block (b := 1) (q := q) (k := k) (v := v) (o := o) 𝒱 c) $$ [HQ HK HV HO HS]
  · isplitl [HQ]; · iexact HQ
    isplitl [HK]; · iexact HK
    isplitl [HV]; · iexact HV
    isplitl [HO]; · iexact HO
    iexact HS
  iintro HQ HK HV HO HS
  iapply (wp_block (b := 2) (q := q) (k := k) (v := v) (o := o) 𝒱 c) $$ [HQ HK HV HO HS]
  · isplitl [HQ]; · iexact HQ
    isplitl [HK]; · iexact HK
    isplitl [HV]; · iexact HV
    isplitl [HO]; · iexact HO
    iexact HS
  iintro HQ HK HV HO HS
  iapply (wp_block (b := 3) (q := q) (k := k) (v := v) (o := o) 𝒱 c) $$ [HQ HK HV HO HS]
  · isplitl [HQ]; · iexact HQ
    isplitl [HK]; · iexact HK
    isplitl [HV]; · iexact HV
    isplitl [HO]; · iexact HO
    iexact HS
  iintro HQ HK HV HO HS
  rw [wp_ret]
  imodintro
  iapply Hk $$ HQ HK HV HO HS

/-- After `n` blocks a row of the first `512 * n` holds what its block stored. -/
theorem outs_at (q k v o : Vec F (Sh3 1 2048 256) .f32) (x : Fin 2048) (l : Fin 256) : ∀ (n : ℕ) (h : n ≤ 4) (hx : x.val < 512 * n),
    outsV q k v o n h (ValueIdx.ix3 0 x l) = resV q k v (x.val / 512) (by omega) (ValueIdx.ix3 0 ⟨x.val % 512, Nat.mod_lt _ (by decide)⟩ l)
  | 0, _, hx => by omega
  | n + 1, h, hx => by
    rw [outsV]
    by_cases e : x.val / 512 = n
    · have hb : n < 4 := by omega
      have e' : (rowsR hb).emb (ValueIdx.ix3 0 ⟨x.val % 512, Nat.mod_lt _ (by decide)⟩ l : (Sh3 1 512 256).Idx) = ValueIdx.ix3 0 x l := by
        funext a; apply Fin.ext
        match a with
        | ⟨0, _⟩ => rfl
        | ⟨1, _⟩ => show 512 * n + 1 * (x.val % 512) = x.val; omega
        | ⟨2, _⟩ => show 0 + 1 * l.val = l.val; omega
      subst e
      rw [← e']
      exact Rect.overlay_emb (rowsR hb) _ _ _
    · rw [← outs_at q k v o x l n (by omega) (by omega)]
      refine Rect.overlay_of_not_mem (rowsR (b := n) h) _ _ fun hm => ?_
      have := (Rect.mem_set_unit.mp hm) 1
      change 512 * n ≤ x.val ∧ x.val < 512 * n + 512 at this
      omega

/-- The four blocks cover the output: what it held before is gone. -/
theorem outs_indep (q k v o o' : Vec F (Sh3 1 2048 256) .f32) : outsV q k v o 4 le_rfl = outsV q k v o' 4 le_rfl := by
  have h : ∀ (x : Fin 2048) (l : Fin 256), outsV q k v o 4 le_rfl (ValueIdx.ix3 0 x l) = outsV q k v o' 4 le_rfl (ValueIdx.ix3 0 x l) :=
    fun x l => by rw [outs_at q k v o x l 4 le_rfl (by omega), outs_at q k v o' x l 4 le_rfl (by omega)]
  funext i
  rw [ValueIdx.eq_ix3 i, show i 0 = (0 : Fin 1) from Subsingleton.elim (α := Fin 1) _ _]
  exact h (i 1) (i 2)

end Cert.Sparse

end
-- ==== Proof.BodyK.lean ====
module

public import proofs.«01_k».proof.Proof.Model
public import proofs.«01_k».proof.Proof.Gen.Kernel.Skeleton

@[expose] public section

noncomputable section

namespace Cert.Kernel

open Idealize.ShloMosaic Idealize.SL.Sem

/-- The printed body is the program over block numbers. -/
theorem body_eq [Facts] [Facts₀] {F : FTy → Type} [FloatOps F] (i : grid0.Coords)
    (q : Memref sig .tc .vmem S1x2048x256 .f32) (hq : q.IsWhole) (k : Memref sig .tc .vmem S1x2048x256 .f32) (hk : k.IsWhole)
    (v : Memref sig .tc .vmem S1x2048x256 .f32) (hv : v.IsWhole) (o : Memref sig .tc .vmem S1x2048x256 .f32) (ho : o.IsWhole)
    (s : Memref sig .tc .vmem S512x160 .f32) (hs : s.IsWhole) :
    cc0__body (F := F) i q hq k hk v hv o ho s hs = Cert.Sparse.bodyP q k v o s := by
  sl_kernel_rfl

end Cert.Kernel

end
-- ==== Proof.BodyI.lean ====
module

public import proofs.«01_k».proof.Proof.Model
public import proofs.«01_k».proof.Proof.Gen.KernelIdeal.Skeleton

@[expose] public section

noncomputable section

namespace Cert.KernelIdeal

open Idealize.ShloMosaic Idealize.SL.Sem

/-- The printed body is the program over block numbers. -/
theorem body_eq [Facts] [Facts₀] {F : FTy → Type} [FloatOps F] (i : grid0.Coords)
    (q : Memref sig .tc .vmem S1x2048x256 .f32) (hq : q.IsWhole) (k : Memref sig .tc .vmem S1x2048x256 .f32) (hk : k.IsWhole)
    (v : Memref sig .tc .vmem S1x2048x256 .f32) (hv : v.IsWhole) (o : Memref sig .tc .vmem S1x2048x256 .f32) (ho : o.IsWhole)
    (s : Memref sig .tc .vmem S512x160 .f32) (hs : s.IsWhole) :
    cc0__body (F := F) i q hq k hk v hv o ho s hs = Cert.Sparse.bodyP q k v o s := by
  sl_kernel_rfl

end Cert.KernelIdeal

end
-- ==== Proof.RunI.lean ====
/-
  The run of the idealized kernel: at every grid point the body leaves its three inputs as they were and writes the
  output block the inputs alone determine, so the program ends with its arguments unchanged, every semaphore at zero
  and its result the reshaped array of those blocks.
-/
module

public import proofs.«01_k».proof.Proof.Wp
public import proofs.«01_k».proof.Proof.BodyI
public import proofs.«01_k».proof.Proof.Gen.KernelIdeal.Launch
public import proofs.«01_k».proof.Proof.Gen.KernelIdeal.Points
public import proofs.«01_k».proof.Proof.Gen.KernelIdeal.Frame

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body leaves in the output's buffer at a grid point. -/
def outAt (c : Dev nD) (t : Fin cfg0.N) : Vec F S1x2048x256 .f32 :=
  Cert.Sparse.outsV (iblk m c 0 t) (iblk m c 1 t) (iblk m c 2 t) (iblk m c 0 t) 4 le_rfl

/-- The pipeline's data: the inputs' buffers stay, the output's buffer ends at the blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Pipeline.ΦA spec0 c
  q _ := fullShare
  owed _ := 0

/-- The arrays are as the region finds them. -/
theorem A_eq (c : Dev nD) (w : Fin cfg0.W) : (dats m 0 c).A w = V m c (Pipeline.arrRef spec0 w) := by
  dsimp only [dats]
theorem after_q (c : Dev nD) (t : Fin cfg0.N) : (dats m 0 c).after 0 t = iblk m c 0 t := by dsimp only [dats]
theorem after_k (c : Dev nD) (t : Fin cfg0.N) : (dats m 0 c).after 1 t = iblk m c 1 t := by dsimp only [dats]
theorem after_v (c : Dev nD) (t : Fin cfg0.N) : (dats m 0 c).after 2 t = iblk m c 2 t := by dsimp only [dats]
theorem after_o (c : Dev nD) (t : Fin cfg0.N) : (dats m 0 c).after 3 t = outAt m c t := by dsimp only [dats]

/-- What the body is given at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
/-- What it leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The four blocks cover the output: what it held before is gone. -/
theorem outs_indep (q k v o o' : Vec F S1x2048x256 .f32) :
    Cert.Sparse.outsV q k v o 4 le_rfl = Cert.Sparse.outsV q k v o' 4 le_rfl := Cert.Sparse.outs_indep q k v o o'

/-- What is carried from point to point: the scratch array at some contents, and the generator. -/
theorem scratch_eq (c : Dev nD) : (Pipeline.ΦA spec0 c : sProp 𝕄)
    = iprop((∃ f, owns (c : Thread nD τ) (Memref.whole cc0_scratch0) fullShare f) ∗ ∃ r, prngReg c r) := by
  unfold Pipeline.ΦA
  rw [scopedRest0_eq]
  simp only [owns_whole]

/-- The body at a point does what the data say. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [body_eq]
  rw [show (dats m 0 c).Φ t.succ = (dats m 0 c).Φ t.castSucc from rfl, after_q, after_k, after_v, after_o]
  rw [show (dats m 0 c).Φ t.castSucc = Pipeline.ΦA spec0 c from rfl]
  rw [scratch_eq]
  unfold Dat.owesAt Pipeline.owesWithin
  rw [show (dats m 0 c).owed t.castSucc = 0 from rfl, show (dats m 0 c).owed t.succ = 0 from rfl]
  iintro ⟨⟨⟨%f, HS⟩, Hg⟩, ⟨%W, -, HW⟩, ⟨%d0, H0⟩, ⟨%d1, H1⟩, ⟨%d2, H2⟩, ⟨%d3, H3⟩⟩
  rw [before0_0_of m (dats m 0 c) (A_eq m c 0) (after_q m c) t d0, before0_1_of m (dats m 0 c) (A_eq m c 1) (after_k m c) t d1,
    before0_2_of m (dats m 0 c) (A_eq m c 2) (after_v m c) t d2]
  iapply (Cert.Sparse.wp_body Variants.none c (q := iblk m c 0 t) (k := iblk m c 1 t) (v := iblk m c 2 t)) $$ [H0 H1 H2 H3 HS]
  · isplitl [H0]; · iexact H0
    isplitl [H1]; · iexact H1
    isplitl [H2]; · iexact H2
    isplitl [H3]; · iexact H3
    iexists f
    iexact HS
  iintro H0 H1 H2 H3 ⟨%s, HS⟩
  isplitl [HS Hg]
  · isplitl [HS]
    · iexists s; iexact HS
    · iexact Hg
  isplitl [HW]
  · iexists W; isplitr; · ipureintro; exact fun _ _ => Or.inl trivial
    iexact HW
  isplitl [H0]; · iexact H0
  isplitl [H1]; · iexact H1
  isplitl [H2]; · iexact H2
  unfold outAt
  rw [outs_indep _ _ _ (iblk m c 0 t) ((dats m 0 c).before 3 t d3)]
  iexact H3

theorem defs₀_row (t : Fin cfg0.N) :
    defs₀ (F := F) .tc cfg0.body (cfg0.bodyArgs t (cfg0.slots t)) = bodyAt0 t := by
  unfold defs₀; rw [Defs.onTc_tc]

/-- The pipeline's obligation on the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: every array at its blocks written back, every semaphore at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
      ⟨((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c),
      ((h.1 c).2 main_arg3 (Pipeline.mem_restRefs_of main_arg3 (by decide) (by decide))).trans (W_main_arg3 m (dats m) c)⟩, h.2⟩)
    (run_main m ρ)

end Cert.KernelIdeal.Hand

end
-- ==== Proof.Out.lean ====
/-
  Where the kernel's blocks lie: what a window holds at a grid point, in the arguments' own indices, and what the
  result holds at an index, in the blocks'.
-/
module

public import proofs.«01_k».proof.Proof.RunI
public import Idealize.ShloMosaic.Lib.ValueIdx
public import Idealize.ShloMosaic.Lib.Claim
public import Idealize.ShloMosaic.Lib.Pipeline.ValueKit

@[expose] public section

set_option maxRecDepth 16384

noncomputable section

namespace Cert.KernelIdeal.Hand

open Cert.KernelIdeal.Gen
open Idealize.ShloMosaic hiding ix1 ix2 ix3 ix4
open Idealize.ShloMosaic.TcCoe Idealize.ShloMosaic.ValueIdx
open Idealize.SL Idealize.SL.Sem
open Idealize.ShloMosaic.Pipeline (Dat Cfg Window)

variable {F : FTy → Type} [FloatOps F]
variable (m : (ℓ : Loc nD τ sig) → Buf (Elt F) ℓ)

/-- The grid point of batch `b` and lane group `g`. -/
def pt (b g : ℕ) (hb : b < 2) (hg : g < 3) : Fin cfg0.N := ⟨3 * b + g, by show 3 * b + g < 6; omega⟩

/-- A block's place: the batch and the lane group of its point. -/
theorem index_q (t : Fin cfg0.N) : win0_0.index t = ![t.val / 3, 0, t.val % 3] := by revert t; decide +kernel
theorem index_k (t : Fin cfg0.N) : win0_1.index t = ![t.val / 3, 0, t.val % 3] := by revert t; decide +kernel
theorem index_v (t : Fin cfg0.N) : win0_2.index t = ![t.val / 3, 0, t.val % 3] := by revert t; decide +kernel
theorem index_o (t : Fin cfg0.N) : win0_3.index t = ![t.val / 3, 0, t.val % 3] := by revert t; decide +kernel

/-- An index of a block, in its array. -/
theorem place (b : Fin 2) (g : Fin 3) (x : Fin 2048) (l : Fin 256) (a : Fin 3) :
    (![(pt b g b.isLt g.isLt).val / 3, 0, (pt b g b.isLt g.isLt).val % 3] : Fin 3 → ℕ) a * S1x2048x256.size a + ((ix3 0 x l : S1x2048x256.Idx) a).val
      = ((ix3 b x (⟨256 * g.val + l.val, by omega⟩ : Fin 768) : S2x2048x768.Idx) a).val := by
  have hg := g.isLt
  match a with
  | ⟨0, _⟩ => show (3 * b.val + g.val) / 3 * 1 + 0 = b.val; omega
  | ⟨1, _⟩ => show 0 * 2048 + x.val = x.val; omega
  | ⟨2, _⟩ => show (3 * b.val + g.val) % 3 * 256 + l.val = 256 * g.val + l.val; omega

/-- Heads and lanes merge. -/
theorem merged : S2x2048x12x64.ShapeCasts S2x2048x768 := by decide
/-- And part again. -/
theorem parted : S2x2048x768.ShapeCasts S2x2048x12x64 := by decide

/-- The arguments reach the windows with heads and lanes merged. -/
theorem V_q (c : Dev nD) : V m c main_v0 = shapeCast S2x2048x768 (m ((c.tc : Thread nD τ).loc main_arg0) : S2x2048x12x64.Idx → Elt F .f32) merged := by
  entry_read
  rfl
theorem V_k (c : Dev nD) : V m c main_v1 = shapeCast S2x2048x768 (m ((c.tc : Thread nD τ).loc main_arg1) : S2x2048x12x64.Idx → Elt F .f32) merged := by
  entry_read
  rfl
theorem V_v (c : Dev nD) : V m c main_v2 = shapeCast S2x2048x768 (m ((c.tc : Thread nD τ).loc main_arg2) : S2x2048x12x64.Idx → Elt F .f32) merged := by
  entry_read
  rfl

/-- Merging heads and lanes, at an index. -/
theorem merge_apply {α : Type} (X : S2x2048x12x64.Idx → α) (b : Fin 2) (x : Fin 2048) (l : Fin 768) :
    shapeCast S2x2048x768 X merged (ix3 b x l) = X (ix4 b x (⟨l.val / 64, by omega⟩ : Fin 12) (⟨l.val % 64, by omega⟩ : Fin 64)) := by
  have hl := l.isLt
  refine shapeCast_apply _ _ _ _ ?_
  rw [Shape.rowMajor_val_four, Shape.rowMajor_val_three]
  show ((b.val * 2048 + x.val) * 12 + l.val / 64) * 64 + l.val % 64 = (b.val * 2048 + x.val) * 768 + l.val
  omega

/-- Parting heads and lanes, at an index. -/
theorem part_apply {α : Type} (X : S2x2048x768.Idx → α) (b : Fin 2) (x : Fin 2048) (h : Fin 12) (e : Fin 64) :
    shapeCast S2x2048x12x64 X parted (ix4 b x h e) = X (ix3 b x (⟨64 * h.val + e.val, by omega⟩ : Fin 768)) := by
  refine shapeCast_apply _ _ _ _ ?_
  rw [Shape.rowMajor_val_four, Shape.rowMajor_val_three]
  show (b.val * 2048 + x.val) * 768 + (64 * h.val + e.val) = ((b.val * 2048 + x.val) * 12 + h.val) * 64 + e.val
  omega

/-- The argument's element that lane `l` of lane group `g` holds. -/
def src (b : Fin 2) (g : Fin 3) (x : Fin 2048) (l : Fin 256) : S2x2048x12x64.Idx :=
  ix4 b x (⟨(256 * g.val + l.val) / 64, by omega⟩ : Fin 12) (⟨(256 * g.val + l.val) % 64, by omega⟩ : Fin 64)

/-- A window's block in the argument's own indices. -/
theorem iblk_q (c : Dev nD) (b : Fin 2) (g : Fin 3) (x : Fin 2048) (l : Fin 256) :
    iblk m c 0 (pt b g b.isLt g.isLt) (ix3 0 x l) = m ((c.tc : Thread nD τ).loc main_arg0) (src b g x l) := by
  unfold iblk
  rw [View.read_apply, show ((cfg0.win 0).blk (pt b g b.isLt g.isLt)).view.emb (ix3 0 x l) = _ from
    funext fun a => Fin.ext ((Window.rect_emb_val win0_0 _ (ix3 0 x l) a).trans (by rw [index_q]; exact place b g x l a))]
  exact (congrFun (V_q m c) _).trans (merge_apply _ b x _)
theorem iblk_k (c : Dev nD) (b : Fin 2) (g : Fin 3) (x : Fin 2048) (l : Fin 256) :
    iblk m c 1 (pt b g b.isLt g.isLt) (ix3 0 x l) = m ((c.tc : Thread nD τ).loc main_arg1) (src b g x l) := by
  unfold iblk
  rw [View.read_apply, show ((cfg0.win 1).blk (pt b g b.isLt g.isLt)).view.emb (ix3 0 x l) = _ from
    funext fun a => Fin.ext ((Window.rect_emb_val win0_1 _ (ix3 0 x l) a).trans (by rw [index_k]; exact place b g x l a))]
  exact (congrFun (V_k m c) _).trans (merge_apply _ b x _)
theorem iblk_v (c : Dev nD) (b : Fin 2) (g : Fin 3) (x : Fin 2048) (l : Fin 256) :
    iblk m c 2 (pt b g b.isLt g.isLt) (ix3 0 x l) = m ((c.tc : Thread nD τ).loc main_arg2) (src b g x l) := by
  unfold iblk
  rw [View.read_apply, show ((cfg0.win 2).blk (pt b g b.isLt g.isLt)).view.emb (ix3 0 x l) = _ from
    funext fun a => Fin.ext ((Window.rect_emb_val win0_2 _ (ix3 0 x l) a).trans (by rw [index_v]; exact place b g x l a))]
  exact (congrFun (V_v m c) _).trans (merge_apply _ b x _)

/-- The result's array, put together from the blocks. -/
def whole (c : Dev nD) : S2x2048x768.Idx → Elt F .f32 := fun i =>
  outAt m c (pt (i 0).val ((i 2).val / 256) (i 0).isLt (by have : (i 2).val < 768 := (i 2).isLt; omega))
    (ix3 0 (i 1) (⟨(i 2).val % 256, Nat.mod_lt _ (by decide)⟩ : Fin 256))

/-- The array ends holding the blocks. -/
theorem arr_whole (c : Dev nD) : (dats m 0 c).arrAt 3 cfg0.N = whole m c := by
  refine (dats m 0 c).arrAt_eq_of_covers 3 _ (by decide +kernel) fun t hf y => ?_
  refine (congrFun (after_o m c t) y).trans ?_
  have ht : t.val < 6 := t.isLt
  obtain ⟨b, g, rfl⟩ : ∃ (b : Fin 2) (g : Fin 3), t = pt b g b.isLt g.isLt :=
    ⟨⟨t.val / 3, by omega⟩, ⟨t.val % 3, by omega⟩, Fin.ext (by show t.val = 3 * (t.val / 3) + t.val % 3; omega)⟩
  obtain ⟨z, x, l, rfl⟩ : ∃ (z : Fin 1) (x : Fin 2048) (l : Fin 256), y = ix3 z x l := ⟨y 0, y 1, y 2, ValueIdx.eq_ix3 y⟩
  have hz : z = 0 := Subsingleton.elim _ _
  subst hz
  have hl := l.isLt
  have hg := g.isLt
  rw [show ((cfg0.win 3).blk (pt b g b.isLt g.isLt)).view.emb (ix3 0 x l) = _ from
    funext fun a => Fin.ext ((Window.rect_emb_val win0_3 _ (ix3 0 x l) a).trans (by rw [index_o]; exact place b g x l a))]
  unfold whole
  congr 1
  · apply Fin.ext
    show 3 * b.val + g.val = 3 * b.val + (256 * g.val + l.val) / 256
    omega
  · funext a
    apply Fin.ext
    match a with
    | ⟨0, _⟩ => rfl
    | ⟨1, _⟩ => rfl
    | ⟨2, _⟩ => show l.val = (256 * g.val + l.val) % 256; omega

/-- The program's result at the end. -/
theorem tail_eq (c : Dev nD) :
    Pipeline.afterTail₀ cfgs (dats m) 0 (V0 m) [hostOps1] c main_v4 = shapeCast S2x2048x12x64 (whole m c) parted := by
  unfold Pipeline.afterTail₀
  simp only [List.flatten_cons, List.flatten_nil, List.append_nil]
  unfold hostOps1
  after_results
  rw [← arr_whole]
  exact congrArg (fun X : S2x2048x768.Idx → Elt F .f32 => shapeCast S2x2048x12x64 X parted)
    (Pipeline.withArrays_arr (cfgs 0).spec launch0.win.arr_inj c (V0 m c) (fun w => (dats m 0 c).arrAt w (cfgs 0).N) 3)

/-- The result at an index: an element of a block. -/
theorem result_apply (c : Dev nD) (b : Fin 2) (x : Fin 2048) (h : Fin 12) (e : Fin 64) :
    shapeCast S2x2048x12x64 (whole m c) parted (ix4 b x h e)
      = outAt m c (pt b (h.val / 4) b.isLt (by omega)) (ix3 0 x (⟨64 * (h.val % 4) + e.val, by omega⟩ : Fin 256)) := by
  rw [part_apply]
  unfold whole
  congr 1
  · apply Fin.ext
    show 3 * b.val + (64 * h.val + e.val) / 256 = 3 * b.val + h.val / 4
    omega
  · funext a
    apply Fin.ext
    match a with
    | ⟨0, _⟩ => rfl
    | ⟨1, _⟩ => rfl
    | ⟨2, _⟩ => show (64 * h.val + e.val) % 256 = 64 * (h.val % 4) + e.val; omega

/-- The run with its result. -/
theorem run_result (ρ : Dev nD → PrngReg) : θ_run defs (onTc (τ := τ) (main (F := F))) ⟨m, fun _ => 0, ρ⟩ (fun r => ∀ c : Dev nD,
      r.2.mem ((c.tc : Thread nD τ).loc main_v4) = shapeCast S2x2048x12x64 (whole m c) parted
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h.1 c).2 main_v4 (Pipeline.mem_restRefs_of main_v4 (by decide) (by decide))).trans (tail_eq m c),
    ((h.1 c).2 main_arg0 (Pipeline.mem_restRefs_of main_arg0 (by decide) (by decide))).trans (W_main_arg0 m (dats m) c),
    ((h.1 c).2 main_arg1 (Pipeline.mem_restRefs_of main_arg1 (by decide) (by decide))).trans (W_main_arg1 m (dats m) c),
    ((h.1 c).2 main_arg2 (Pipeline.mem_restRefs_of main_arg2 (by decide) (by decide))).trans (W_main_arg2 m (dats m) c),
    ((h.1 c).2 main_arg3 (Pipeline.mem_restRefs_of main_arg3 (by decide) (by decide))).trans (W_main_arg3 m (dats m) c)⟩) (run_main m ρ)

end Cert.KernelIdeal.Hand

end
-- ==== Proof.Real.lean ====
/-
  The arithmetic over the real numbers: a causal row's masked softmax, the sum over the diagonals it equals, and the
  cancelling of the maximum that a softmax subtracts.
-/
module

public import proofs.«01_k».proof.Proof.Model
public import Mathlib.Analysis.SpecialFunctions.Exp
public import Mathlib.Algebra.BigOperators.Field

@[expose] public section

noncomputable section

namespace Cert.Sparse

open Finset

/-- The score of key `x` for query `i`: kept within eight steps and at multiples of 65 steps, zero elsewhere. -/
def gate (i : ℕ) (a : ℕ → ℝ) (x : ℕ) : ℝ := if i - x ≤ 8 ∨ (i - x) % 65 = 0 then a x else 0

/-- The causal softmax row of query `i`, from its scores `a` and the values `u`. -/
def att (i : ℕ) (a u : ℕ → ℝ) : ℝ :=
  (∑ x ∈ range (i + 1), Real.exp (1 / 8 * gate i a x) * u x) / ∑ x ∈ range (i + 1), Real.exp (1 / 8 * gate i a x)

/-- The number of the diagonal at a kept distance. -/
def undiag (d : ℕ) : ℕ := if d ≤ 8 then d else 8 + d / 65

theorem diag_kept (j : ℕ) : diag j ≤ 8 ∨ diag j % 65 = 0 := by unfold diag; split <;> omega
theorem undiag_diag (j : ℕ) : undiag (diag j) = j := by
  unfold undiag diag
  by_cases h : j ≤ 8
  · rw [if_pos h, if_pos h]
  · rw [if_neg h, if_neg (by omega)]; omega
theorem diag_undiag (d : ℕ) (h : d ≤ 8 ∨ d % 65 = 0) : diag (undiag d) = d := by
  unfold undiag diag
  by_cases h8 : d ≤ 8
  · rw [if_pos h8, if_pos h8]
  · rw [if_neg h8, if_neg (by omega)]; omega
theorem undiag_lt (d : ℕ) (h : d < 2048) : undiag d < 40 := by unfold undiag; split <;> omega

/-- The forty diagonals name, once each, the distances up to `i` that are kept. -/
theorem sum_diag (i : ℕ) (hi : i < 2048) (f : ℕ → ℝ) :
    ∑ j ∈ range 40, (if diag j ≤ i then f (i - diag j) else 0)
      = ∑ x ∈ range (i + 1), (if i - x ≤ 8 ∨ (i - x) % 65 = 0 then f x else 0) := by
  rw [← sum_filter, ← sum_filter]
  refine sum_nbij' (fun j => i - diag j) (fun x => undiag (i - x)) ?_ ?_ ?_ ?_ fun j _ => rfl
  · intro j hj
    have hj := (mem_filter.mp hj).2
    refine mem_filter.mpr ⟨mem_range.mpr (by omega), ?_⟩
    rw [show i - (i - diag j) = diag j by omega]
    exact diag_kept j
  · intro x hx
    have hx' := mem_range.mp (mem_filter.mp hx).1
    have hk := (mem_filter.mp hx).2
    refine mem_filter.mpr ⟨mem_range.mpr (undiag_lt _ (by omega)), ?_⟩
    rw [diag_undiag _ hk]; omega
  · intro j hj
    have hj := (mem_filter.mp hj).2
    show undiag (i - (i - diag j)) = j
    rw [show i - (i - diag j) = diag j by omega, undiag_diag]
  · intro x hx
    have hx' := mem_range.mp (mem_filter.mp hx).1
    have hk := (mem_filter.mp hx).2
    show i - diag (undiag (i - x)) = x
    rw [diag_undiag _ hk]; omega

/-- One row of the kernel's formula is the softmax row: every key counts once, and the kept ones their exponential less one. -/
theorem kernel_att (i : ℕ) (hi : i < 2048) (a u : ℕ → ℝ) :
    ((∑ x ∈ range (i + 1), u x) + ∑ j ∈ range 40, (if diag j ≤ i then Real.exp (1 / 8 * a (i - diag j)) - 1 else 0)
        * (if diag j ≤ i then u (i - diag j) else 0))
      / (((i + 1 : ℕ) : ℝ) + ∑ j ∈ range 40, (if diag j ≤ i then Real.exp (1 / 8 * a (i - diag j)) - 1 else 0)) = att i a u := by
  have e : ∀ x, (if i - x ≤ 8 ∨ (i - x) % 65 = 0 then Real.exp (1 / 8 * a x) - 1 else 0) = Real.exp (1 / 8 * gate i a x) - 1 := by
    intro x; unfold gate; split_ifs <;> simp
  have h1 : ∑ j ∈ range 40, (if diag j ≤ i then Real.exp (1 / 8 * a (i - diag j)) - 1 else 0)
      = ∑ x ∈ range (i + 1), (Real.exp (1 / 8 * gate i a x) - 1) := by
    rw [sum_diag i hi fun x => Real.exp (1 / 8 * a x) - 1]
    exact sum_congr rfl fun x _ => e x
  have h2 : ∑ j ∈ range 40, (if diag j ≤ i then Real.exp (1 / 8 * a (i - diag j)) - 1 else 0) * (if diag j ≤ i then u (i - diag j) else 0)
      = ∑ x ∈ range (i + 1), (Real.exp (1 / 8 * gate i a x) - 1) * u x := by
    rw [show (∑ j ∈ range 40, (if diag j ≤ i then Real.exp (1 / 8 * a (i - diag j)) - 1 else 0) * (if diag j ≤ i then u (i - diag j) else 0))
      = ∑ j ∈ range 40, (if diag j ≤ i then (Real.exp (1 / 8 * a (i - diag j)) - 1) * u (i - diag j) else 0) from
        sum_congr rfl fun j _ => by split_ifs <;> simp]
    rw [sum_diag i hi fun x => (Real.exp (1 / 8 * a x) - 1) * u x]
    refine sum_congr rfl fun x _ => ?_
    rw [← e x]; split_ifs <;> simp
  rw [h1, h2, ← sum_add_distrib, sum_sub_distrib]
  unfold att
  congr 1
  · exact sum_congr rfl fun x _ => by ring
  · simp

/-- The sum of the exponentials is positive. -/
theorem den_pos (i : ℕ) (a : ℕ → ℝ) : 0 < ∑ x ∈ range (i + 1), Real.exp (1 / 8 * gate i a x) :=
  sum_pos (fun _ _ => Real.exp_pos _) ⟨0, by simp⟩

/-- The kernel's divisor is not zero. -/
theorem kernel_den_pos (i : ℕ) (hi : i < 2048) (a : ℕ → ℝ) :
    0 < ((i + 1 : ℕ) : ℝ) + ∑ j ∈ range 40, (if diag j ≤ i then Real.exp (1 / 8 * a (i - diag j)) - 1 else 0) := by
  have e : ∀ x, (if i - x ≤ 8 ∨ (i - x) % 65 = 0 then Real.exp (1 / 8 * a x) - 1 else 0) = Real.exp (1 / 8 * gate i a x) - 1 := by
    intro x; unfold gate; split_ifs <;> simp
  rw [sum_diag i hi fun x => Real.exp (1 / 8 * a x) - 1, sum_congr rfl fun x _ => e x, sum_sub_distrib]
  simpa using den_pos i a

/-- Keys after the query add nothing. -/
theorem sum_causal (i : ℕ) (hi : i < 2048) (f : ℕ → ℝ) :
    ∑ x : Fin 2048, (if x.val ≤ i then f x.val else 0) = ∑ x ∈ range (i + 1), f x := by
  rw [Fin.sum_univ_eq_sum_range (fun x => if x ≤ i then f x else 0) 2048, ← sum_filter]
  congr 1
  ext x; simp only [mem_filter, mem_range]; omega

/-- The softmax with `M` subtracted from every score, over all the keys, is the same row. -/
theorem softmax_att (i : ℕ) (hi : i < 2048) (a u : ℕ → ℝ) (M : ℝ) :
    ∑ x : Fin 2048, u x.val * ((if x.val ≤ i then Real.exp (1 / 8 * gate i a x.val - M) else 0)
      / ∑ y : Fin 2048, (if y.val ≤ i then Real.exp (1 / 8 * gate i a y.val - M) else 0)) = att i a u := by
  rw [sum_causal i hi fun y => Real.exp (1 / 8 * gate i a y - M)]
  have h : ∀ x : Fin 2048, u x.val * ((if x.val ≤ i then Real.exp (1 / 8 * gate i a x.val - M) else 0)
      / ∑ y ∈ range (i + 1), Real.exp (1 / 8 * gate i a y - M))
      = (if x.val ≤ i then Real.exp (1 / 8 * gate i a x.val) * u x.val else 0) / ∑ y ∈ range (i + 1), Real.exp (1 / 8 * gate i a y) := by
    intro x
    have hs : ∑ y ∈ range (i + 1), Real.exp (1 / 8 * gate i a y - M) = (∑ y ∈ range (i + 1), Real.exp (1 / 8 * gate i a y)) / Real.exp M := by
      rw [sum_div]; exact sum_congr rfl fun y _ => Real.exp_sub _ _
    have hp := den_pos i a
    have hM := Real.exp_pos M
    rw [hs]
    split_ifs
    · rw [Real.exp_sub]; field_simp
    · simp
  rw [sum_congr rfl fun x _ => h x, ← sum_div, sum_causal i hi fun x => Real.exp (1 / 8 * gate i a x) * u x]
  rfl

/-- The softmax's divisor is positive. -/
theorem softmax_den_pos (i : ℕ) (hi : i < 2048) (a : ℕ → ℝ) (M : ℝ) :
    0 < ∑ y : Fin 2048, (if y.val ≤ i then Real.exp (1 / 8 * gate i a y.val - M) else 0) := by
  rw [sum_causal i hi fun y => Real.exp (1 / 8 * gate i a y - M)]
  exact sum_pos (fun _ _ => Real.exp_pos _) ⟨0, by simp⟩

/-- Of the lanes, those of head `h` are 64 in a row. -/
theorem sum_head {n m h : ℕ} (hh : h < n) (hm : 0 < m) (f : ℕ → ℝ) :
    ∑ c ∈ range (n * m), (if c / m = h then f c else 0) = ∑ e ∈ range m, f (m * h + e) := by
  rw [← sum_filter]
  refine sum_nbij' (fun c => c % m) (fun e => m * h + e) ?_ ?_ ?_ ?_ ?_
  · intro c _; simpa using Nat.mod_lt _ hm
  · intro e he
    simp only [mem_filter, mem_range] at he ⊢
    refine ⟨?_, by rw [Nat.mul_add_div hm, Nat.div_eq_of_lt he, add_zero]⟩
    calc m * h + e < m * (h + 1) := by rw [mul_add]; omega
      _ ≤ n * m := by rw [mul_comm n m]; exact Nat.mul_le_mul_left _ hh
  · intro c hc
    simp only [mem_filter] at hc
    rw [← hc.2]; exact Nat.div_add_mod c m
  · intro e he
    simp only [mem_range] at he
    rw [Nat.mul_add_mod, Nat.mod_eq_of_lt he]
  · intro c hc
    simp only [mem_filter] at hc
    rw [← hc.2, Nat.div_add_mod]

/-- Of the score lanes, those of head `h` are every fourth. -/
theorem sum_lanes {n m h : ℕ} (hh : h < m) (f : ℕ → ℝ) :
    ∑ l ∈ range (n * m), (if l % m = h then f l else 0) = ∑ j ∈ range n, f (m * j + h) := by
  have hm : 0 < m := by omega
  rw [← sum_filter]
  refine sum_nbij' (fun l => l / m) (fun j => m * j + h) ?_ ?_ ?_ ?_ ?_
  · intro l hl
    simp only [mem_filter, mem_range] at hl ⊢
    exact Nat.div_lt_of_lt_mul (by rw [mul_comm]; exact hl.1)
  · intro j hj
    simp only [mem_filter, mem_range] at hj ⊢
    refine ⟨?_, by rw [Nat.mul_add_mod, Nat.mod_eq_of_lt hh]⟩
    calc m * j + h < m * (j + 1) := by rw [mul_add]; omega
      _ ≤ n * m := by rw [mul_comm n m]; exact Nat.mul_le_mul_left _ hj
  · intro l hl
    simp only [mem_filter] at hl
    rw [← hl.2]; exact Nat.div_add_mod l m
  · intro j _
    rw [Nat.mul_add_div hm, Nat.div_eq_of_lt hh, add_zero]
  · intro l hl
    simp only [mem_filter] at hl
    rw [← hl.2, Nat.div_add_mod]

end Cert.Sparse

end
-- ==== Proof.Block.lean ====
/-
  The kernel's vectors over the extended reals: where the windows hold real numbers, so does every vector of a block,
  and each is the real formula the textbook has for it, down to the block's result as a causal softmax row.
-/
module

public import proofs.«01_k».proof.Proof.Wp
public import proofs.«01_k».proof.Proof.Real
public import Idealize.ShloMosaic.Lib.MatmulPlain
public import Idealize.ShloMosaic.Lib.ValueIdx
public import Idealize.ShloMosaic.Lib.IdealHost

@[expose] public section

noncomputable section

namespace Cert.Sparse

open Idealize.ShloMosaic Idealize.ShloMosaic.ValueIdx Idealize.ShloMosaic.WordCmp Finset

/-! ## Real numbers among the extended reals -/

/-- A finite sum of real numbers is the same sum. -/
theorem coeSum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [sum_insert ha, sum_insert ha, ih, EReal.coe_add]

/-- A quotient of real numbers is the same quotient where the divisor is not zero. -/
theorem coeDiv (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- The scale of the scores is an eighth. -/
theorem eighth : Scalar.ofBits (F := Ideal) .f32 0x3E000000#32 = ((1 / 8 : ℝ) : EReal) := by
  show Ideal.ieee 8 23 0x3E000000#32 = _
  simp [Ideal.ieee]
  rw [← EReal.coe_mul]
  norm_num

theorem zeroBits : Scalar.ofBits (F := Ideal) .f32 0x00000000#32 = ((0 : ℝ) : EReal) := by
  show Ideal.ofBits .f32 0x00000000#32 = _
  rw [Ideal.ofBits_zero_f32]; simp

theorem oneBits : Scalar.ofBits (F := Ideal) .f32 0x3F800000#32 = ((1 : ℝ) : EReal) := by
  show Ideal.ofBits .f32 0x3F800000#32 = _
  rw [Ideal.ofBits_one_f32]; simp

/-- A product with the zero accumulator, of real matrices. -/
theorem matmul_real {M K N : ℕ} (lhs : FVec Ideal (Sh2 M K) .f32) (rhs : FVec Ideal (Sh2 K N) .f32) (f g : ℕ → ℝ) (r : Fin M) (c : Fin N)
    (hl : ∀ k : Fin K, lhs (ix2 r k) = ((f k.val : ℝ) : EReal)) (hr : ∀ k : Fin K, rhs (ix2 k c) = ((g k.val : ℝ) : EReal)) :
    matmul (DotDims.plain M K N) none lhs rhs (constant (Sh2 M N) .f32 0x00000000#32) (ix2 r c) = ((∑ k ∈ range K, f k * g k : ℝ) : EReal) := by
  refine (Ideal.matmul_plain_apply none lhs rhs _ r c).trans ?_
  rw [constant_apply, Ideal.ofBits_zero_f32, zero_add, ← Fin.sum_univ_eq_sum_range (fun k => f k * g k) K, ← coeSum]
  exact sum_congr rfl fun k _ => by rw [hl, hr, EReal.coe_mul]

/-! ## The constant matrices -/

/-- A lane belongs to its head alone. -/
theorem sel_at (c : Fin 256) (h : Fin 4) : sel (F := Ideal) (ix2 c h) = (((if c.val / 64 = h.val then 1 else 0 : ℝ)) : EReal) := by
  have e : ∀ (c : Fin 256) (h : Fin 4), selI (ix2 c h) = if c.val / 64 = h.val then 1#32 else 0#32 := by decide +kernel
  show (((selI (ix2 c h)).toInt : ℝ) : EReal) = _
  rw [e]; split <;> simp

/-- The same, transposed. -/
theorem selt_at (h : Fin 4) (c : Fin 256) : selt (F := Ideal) (ix2 h c) = (((if c.val / 64 = h.val then 1 else 0 : ℝ)) : EReal) := by
  unfold selt
  rw [transpose_ix2_apply]
  exact sel_at c h

/-- A score lane belongs to its head alone. -/
theorem sumsel_at (l : Fin 160) (h : Fin 4) : sumsel (F := Ideal) (ix2 l h) = (((if l.val % 4 = h.val then 1 else 0 : ℝ)) : EReal) := by
  have e : ∀ (l : Fin 160) (h : Fin 4), sumselI (ix2 l h) = if l.val % 4 = h.val then 1#32 else 0#32 := by decide +kernel
  show (((sumselI (ix2 l h)).toInt : ℝ) : EReal) = _
  rw [e]; split <;> simp

/-- The triangle has a one where the column is not after the row. -/
theorem tril_at (r y : Fin 512) : tril (F := Ideal) (ix2 r y) = (((if y.val ≤ r.val then 1 else 0 : ℝ)) : EReal) := by
  have hr := r.isLt
  have hy := y.isLt
  show ((((IntOp.cmpi .sge (BitVec.ofNat 32 (0 * 512 + r.val)) (BitVec.ofNat 32 (0 * 512 + y.val))).setWidth 32).toInt : ℝ) : EReal) = _
  rw [cmpi_sge_ofNat (by omega) (by omega)]
  by_cases h : y.val ≤ r.val
  · rw [if_pos h, decide_eq_true (by omega)]; simp
  · rw [if_neg h, decide_eq_false (by omega)]; simp

/-! ## A block's vectors -/

/-- The window holds the real numbers `f` of row and lane. -/
def Holds (X : Vec Ideal (Sh3 1 2048 256) .f32) (f : ℕ → ℕ → ℝ) : Prop :=
  ∀ (x : Fin 2048) (l : Fin 256), X (ix3 0 x l) = ((f x.val l.val : ℝ) : EReal)

variable {Q K V : Vec Ideal (Sh3 1 2048 256) .f32} {q k v : ℕ → ℕ → ℝ}

/-- A block of rows. -/
theorem rows_real (hV : Holds V v) {b : ℕ} (hb : b < 4) (r : Fin 512) (l : Fin 256) :
    (shapeCast (Sh2 512 256) (rd (rowsR hb) V) (casts3 512) : FVec Ideal (Sh2 512 256) .f32) (ix2 r l) = ((v (512 * b + r.val) l.val : ℝ) : EReal) := by
  have hr := r.isLt
  rw [shapeCast_1ab_ab_apply]
  have e : (rowsR hb).emb (ix3 0 r l : (Sh3 1 512 256).Idx) = ix3 0 (⟨512 * b + r.val, by omega⟩ : Fin 2048) l := by
    funext a; apply Fin.ext
    match a with
    | ⟨0, _⟩ => rfl
    | ⟨1, _⟩ => show 512 * b + 1 * r.val = _; simp
    | ⟨2, _⟩ => show 0 + 1 * l.val = l.val; omega
  exact (congrArg V e).trans (hV _ l)

/-- A shifted block: the row `d` above, zero above the first. -/
theorem shift_real (hV : Holds V v) (i d : ℕ) (hi : i + 512 ≤ 2048) (hd : d < i + 512) (r : Fin 512) (l : Fin 256) :
    shiftV V i d hi hd (ix2 r l) = (((if d ≤ i + r.val then v (i + r.val - d) l.val else 0 : ℝ)) : EReal) := by
  have hr := r.isLt
  unfold shiftV
  split
  · rename_i h
    rw [shapeCast_1ab_ab_apply, if_pos (by omega)]
    have e : (shiftR d hi).emb (ix3 0 r l : (Sh3 1 512 256).Idx) = ix3 0 (⟨i + r.val - d, by omega⟩ : Fin 2048) l := by
      funext a; apply Fin.ext
      match a with
      | ⟨0, _⟩ => rfl
      | ⟨1, _⟩ => show i - d + 1 * r.val = i + r.val - d; omega
      | ⟨2, _⟩ => show 0 + 1 * l.val = l.val; omega
    exact (congrArg V e).trans (hV _ l)
  · rename_i h
    by_cases hs : d ≤ i + r.val
    · rw [if_pos hs]
      have hn : r.val - (d - i) < 512 - (d - i) := by omega
      refine (concatenate_pair_apply_right (s₁ := Sh2 (d - i) 256) (s₂ := Sh2 (512 - (d - i)) 256) (0 : Fin 2) _ _ _ (ix2 r l) rfl rfl (ix2 (⟨r.val - (d - i), hn⟩ : Fin (512 - (d - i))) l : (Sh2 (512 - (d - i)) 256).Idx) ?_ ?_).trans ?_
      · intro a ha
        match a with
        | ⟨0, _⟩ => exact absurd rfl ha
        | ⟨1, _⟩ => rfl
      · show r.val - (d - i) + (d - i) = r.val; omega
      rw [shapeCast_1ab_ab_apply]
      have e : (topR (512 - (d - i)) (Nat.sub_le ..)).emb (ix3 0 (⟨r.val - (d - i), hn⟩ : Fin (512 - (d - i))) l : (Sh3 1 (512 - (d - i)) 256).Idx)
          = ix3 0 (⟨i + r.val - d, by omega⟩ : Fin 2048) l := by
        funext a; apply Fin.ext
        match a with
        | ⟨0, _⟩ => rfl
        | ⟨1, _⟩ => show 0 + 1 * (r.val - (d - i)) = i + r.val - d; omega
        | ⟨2, _⟩ => show 0 + 1 * l.val = l.val; omega
      exact (congrArg V e).trans (hV _ l)
    · rw [if_neg hs]
      refine (concatenate_pair_apply_left (s₁ := Sh2 (d - i) 256) (s₂ := Sh2 (512 - (d - i)) 256) (0 : Fin 2) _ _ _ (ix2 r l) rfl (ix2 (⟨r.val, by omega⟩ : Fin (d - i)) l : (Sh2 (d - i) 256).Idx) ?_).trans ?_
      · intro a
        match a with
        | ⟨0, _⟩ => rfl
        | ⟨1, _⟩ => rfl
      · exact zeroBits

/-- The score of query row `i` against key row `x`, in head `h`. -/
def dot (q k : ℕ → ℕ → ℝ) (h i x : ℕ) : ℝ := ∑ e ∈ range 64, q i (64 * h + e) * k x (64 * h + e)

/-- A score is the product of a query row and a key row in one head. -/
theorem score_real {qb ks : FVec Ideal (Sh2 512 256) .f32} {f g : ℕ → ℝ} (r : Fin 512) (hq : ∀ c : Fin 256, qb (ix2 r c) = ((f c.val : ℝ) : EReal))
    (hk : ∀ c : Fin 256, ks (ix2 r c) = ((g c.val : ℝ) : EReal)) (h : Fin 4) :
    score qb ks (ix2 r h) = ((∑ e ∈ range 64, f (64 * h.val + e) * g (64 * h.val + e) : ℝ) : EReal) := by
  unfold score
  rw [matmul_real (mulf qb ks) sel (fun c => f c * g c) (fun c => if c / 64 = h.val then 1 else 0) r h
    (fun c => by rw [mulf_apply, hq, hk, EReal.coe_mul]) (fun c => sel_at c h)]
  rw [← sum_head (n := 4) h.isLt (by decide) fun c => f c * g c]
  exact congrArg _ (sum_congr rfl fun c _ => by split <;> simp)

/-- The weight of diagonal `j` in head `h` at row `i`. -/
def wt (q k : ℕ → ℕ → ℝ) (i h j : ℕ) : ℝ := if diag j ≤ i then Real.exp (1 / 8 * dot q k h i (i - diag j)) - 1 else 0

/-- A block's weights. -/
theorem weights_real (hQ : Holds Q q) (hK : Holds K k) {b : ℕ} (hb : b < 4) (S : Vec Ideal (Sh2 512 160) .f32) (r : Fin 512) (l : Fin 160) :
    weightsV Q K b hb S (ix2 r l) = ((wt q k (512 * b + r.val) (l.val % 4) (l.val / 4) : ℝ) : EReal) := by
  have hr := r.isLt
  have hl := l.isLt
  unfold weightsV wt
  rw [weights_at hb]
  by_cases h : diag (l.val / 4) ≤ 512 * b + r.val
  · have hn : l.val / 4 < 16 + 8 * b := by
      unfold diag at h; split at h <;> omega
    rw [if_pos ⟨h, hn⟩, if_pos h, scores_at K _ hb r l hn _ _ _ S (Nat.zero_le _) (by omega),
      score_real (f := q (512 * b + r.val)) (g := k (512 * b + r.val - diag (l.val / 4))) r (fun c => rows_real hQ hb r c)
        (fun c => (shift_real hK _ _ _ _ r c).trans (by rw [if_pos h])), eighth, oneBits]
    show Ideal.exp (((1 / 8 : ℝ) : EReal) * ((dot q k (l.val % 4) (512 * b + r.val) (512 * b + r.val - diag (l.val / 4)) : ℝ) : EReal)) - ((1 : ℝ) : EReal) = _
    rw [← EReal.coe_mul, Ideal.exp_coe, ← EReal.coe_sub]
  · rw [if_neg (fun h' => h h'.1), if_neg h, zeroBits]

/-- A head's value spread over its lanes. -/
theorem spread_real {w : FVec Ideal (Sh2 512 4) .f32} {f : ℕ → ℝ} (r : Fin 512) (hw : ∀ h : Fin 4, w (ix2 r h) = ((f h.val : ℝ) : EReal)) (c : Fin 256) :
    spread w (ix2 r c) = ((f (c.val / 64) : ℝ) : EReal) := by
  have hc := c.isLt
  unfold spread
  rw [matmul_real w selt f (fun h => if c.val / 64 = h then 1 else 0) r c hw (fun h => selt_at h c)]
  simp only [mul_ite, mul_one, mul_zero]
  rw [sum_ite_eq, if_pos (mem_range.mpr (by omega))]

/-- The weights of a head summed over the diagonals. -/
theorem denom_real {W : FVec Ideal (Sh2 512 160) .f32} {f : ℕ → ℕ → ℝ} (r : Fin 512)
    (hW : ∀ l : Fin 160, W (ix2 r l) = ((f (l.val % 4) (l.val / 4) : ℝ) : EReal)) (c : Fin 256) :
    denom W (ix2 r c) = ((∑ j ∈ range 40, f (c.val / 64) j : ℝ) : EReal) := by
  have h : ∀ h : Fin 4, matmul (DotDims.plain 512 160 4) none W sumsel (constant (Sh2 512 4) .f32 0x00000000#32) (ix2 r h)
      = ((∑ j ∈ range 40, f h.val j : ℝ) : EReal) := fun h => by
    rw [matmul_real W sumsel (fun l => f (l % 4) (l / 4)) (fun l => if l % 4 = h.val then 1 else 0) r h hW (fun l => sumsel_at l h)]
    refine congrArg _ ((sum_congr rfl fun l _ => ?_).trans ((sum_lanes (n := 40) h.isLt fun l => f (l % 4) (l / 4)).trans (sum_congr rfl fun j _ => ?_)))
    · split <;> simp
    · rw [show (4 * j + h.val) % 4 = h.val by omega, show (4 * j + h.val) / 4 = j by omega]
  exact spread_real (f := fun h => ∑ j ∈ range 40, f h j) r h c

/-- One diagonal's weights. -/
theorem lane_real {W : FVec Ideal (Sh2 512 160) .f32} {f : ℕ → ℕ → ℝ} (r : Fin 512)
    (hW : ∀ l : Fin 160, W (ix2 r l) = ((f (l.val % 4) (l.val / 4) : ℝ) : EReal)) {j : ℕ} (hj : j < 40) (h : Fin 4) :
    (rd (laneR hj) W : FVec Ideal (Sh2 512 4) .f32) (ix2 r h) = ((f h.val j : ℝ) : EReal) := by
  have hh := h.isLt
  have e : (laneR hj).emb (ix2 r h : (Sh2 512 4).Idx) = ix2 r (⟨4 * j + h.val, by omega⟩ : Fin 160) := by
    funext a; apply Fin.ext
    match a with
    | ⟨0, _⟩ => show 0 + 1 * r.val = r.val; omega
    | ⟨1, _⟩ => show 4 * j + 1 * h.val = 4 * j + h.val; omega
  refine (congrArg W e).trans ((hW _).trans ?_)
  simp only
  rw [show (4 * j + h.val) % 4 = h.val by omega, show (4 * j + h.val) / 4 = j by omega]

/-- The weighted shifted values of a run of diagonals, added to what was there. -/
theorem sums_real (hV : Holds V v) {W : FVec Ideal (Sh2 512 160) .f32} {f : ℕ → ℕ → ℝ} {b : ℕ} (hb : b < 4) (r : Fin 512)
    (hW : ∀ l : Fin 160, W (ix2 r l) = ((f (l.val % 4) (l.val / 4) : ℝ) : EReal)) (c : Fin 256) :
    ∀ (n j : ℕ) (h : j + n ≤ 16 + 8 * b) (acc : FVec Ideal (Sh2 512 256) .f32) (A : ℝ), acc (ix2 r c) = (A : EReal) →
      sumsV V W b hb n j h acc (ix2 r c)
        = ((A + ∑ t ∈ range n, f (c.val / 64) (j + t) * (if diag (j + t) ≤ 512 * b + r.val then v (512 * b + r.val - diag (j + t)) c.val else 0) : ℝ) : EReal)
  | 0, j, h, acc, A, hA => by simpa [sumsV] using hA
  | n + 1, j, h, acc, A, hA => by
    rw [sumsV, sums_real hV hb r hW c n (j + 1) _ _ (A + f (c.val / 64) j * (if diag j ≤ 512 * b + r.val then v (512 * b + r.val - diag j) c.val else 0))
      (by rw [addf_apply, mulf_apply, hA, spread_real (f := fun h => f h j) r (fun h => lane_real r hW _ h), shift_real hV]
          rw [← EReal.coe_mul, ← EReal.coe_add])]
    rw [sum_range_succ', add_assoc, add_comm (∑ t ∈ range n, _)]
    simp only [add_zero, show ∀ t, j + 1 + t = j + (t + 1) by intro t; omega]

/-- A block's sum of weighted values. -/
theorem num_real (hV : Holds V v) {W : FVec Ideal (Sh2 512 160) .f32} {f : ℕ → ℕ → ℝ} {b : ℕ} (hb : b < 4) (r : Fin 512)
    (hW : ∀ l : Fin 160, W (ix2 r l) = ((f (l.val % 4) (l.val / 4) : ℝ) : EReal)) (c : Fin 256) :
    numV V b hb W (ix2 r c)
      = ((∑ j ∈ range (16 + 8 * b), f (c.val / 64) j * (if diag j ≤ 512 * b + r.val then v (512 * b + r.val - diag j) c.val else 0) : ℝ) : EReal) := by
  unfold numV
  rw [sums_real hV hb r hW c _ 1 _ _ (f (c.val / 64) 0 * v (512 * b + r.val) c.val)
    (by rw [addf_apply, mulf_apply, broadcast_apply, zeroBits, spread_real (f := fun h => f h 0) r (fun h => lane_real r hW _ h), rows_real hV hb]
        rw [← EReal.coe_mul, ← EReal.coe_add, zero_add])]
  rw [show 16 + 8 * b = 15 + 8 * b + 1 by omega, sum_range_succ', add_comm (∑ t ∈ range _, _)]
  simp only [show ∀ t, 1 + t = t + 1 by intro t; omega, show diag 0 = 0 from rfl, Nat.zero_le, if_true, Nat.sub_zero]

/-- A block's running sum over what the blocks before it left. -/
theorem prefix_real (hV : Holds V v) {b : ℕ} (hb : b < 4) {cy : FVec Ideal (Sh2 1 256) .f32} (c : Fin 256)
    (hc : cy (ix2 0 c) = ((∑ x ∈ range (512 * b), v x c.val : ℝ) : EReal)) (r : Fin 512) :
    prefixV V b hb cy (ix2 r c) = ((∑ x ∈ range (512 * b + r.val + 1), v x c.val : ℝ) : EReal) := by
  have hr := r.isLt
  unfold prefixV prefixSum
  rw [addf_apply, broadcastTo_1b_ab_apply, matmul_real tril _ (fun y => if y ≤ r.val then 1 else 0) (fun y => v (512 * b + y) c.val) r c
    (fun y => tril_at r y) (fun y => rows_real hV hb y c)]
  rw [hc, ← EReal.coe_add]
  refine congrArg _ ?_
  rw [add_assoc, sum_range_add, add_comm]
  congr 1
  rw [show (∑ y ∈ range 512, (if y ≤ r.val then (1 : ℝ) else 0) * v (512 * b + y) c.val) = ∑ y ∈ range 512, if y ≤ r.val then v (512 * b + y) c.val else 0 from
    sum_congr rfl fun y _ => by split <;> simp]
  rw [← sum_filter]
  congr 1
  ext y; simp only [mem_filter, mem_range]; omega

/-- The carry into a block is the sum of the rows before it. -/
theorem carry_real (hV : Holds V v) (c : Fin 256) : ∀ (b : ℕ) (hb : b ≤ 4), carryV V b hb (ix2 0 c) = ((∑ x ∈ range (512 * b), v x c.val : ℝ) : EReal)
  | 0, _ => zeroBits.trans (by simp)
  | b + 1, hb => by
    rw [carryV]
    unfold lastRow
    refine (slice2_axis0_apply 511 _ _ (0 : Fin 1) c (⟨511, by decide⟩ : Fin 512) rfl).trans ?_
    refine (prefix_real hV (b := b) hb c (carry_real hV c b (by omega)) (⟨511, by decide⟩ : Fin 512)).trans ?_
    rw [show 512 * b + (⟨511, by decide⟩ : Fin 512).val + 1 = 512 * (b + 1) by show 512 * b + 511 + 1 = _; omega]

/-- The count of the keys up to a row. -/
theorem count_real {b : ℕ} (hb : b < 4) (r : Fin 512) (c : Fin 256) :
    (broadcastTo (Sh2 512 256) (sitofp .f32 (addi (iota .tc (Sh2 512 1) 32 [0] (by decide))
      (broadcast (Sh2 512 1) (BitVec.ofNat 32 (512 * b + 1)))) : FVec Ideal (Sh2 512 1) .f32) (by decide) : FVec Ideal (Sh2 512 256) .f32) (ix2 r c)
      = (((512 * b + r.val + 1 : ℕ) : ℝ) : EReal) := by
  have hr := r.isLt
  refine (broadcastTo_apply _ _ (ix2 r c) (ix2 r (0 : Fin 1)) ?_).trans ?_
  · intro a
    match a with
    | ⟨0, _⟩ => rfl
    | ⟨1, _⟩ => rfl
  show (((BitVec.ofNat 32 (0 * 512 + r.val) + BitVec.ofNat 32 (512 * b + 1)).toInt : ℝ) : EReal) = _
  rw [← BitVec.ofNat_add, toInt_ofNat_of_lt (by omega), show 0 * 512 + r.val + (512 * b + 1) = 512 * b + r.val + 1 by omega]
  simp

/-- A block's result is the causal softmax row of its query, in each head. -/
theorem res_real (hQ : Holds Q q) (hK : Holds K k) (hV : Holds V v) {b : ℕ} (hb : b < 4) (r : Fin 512) (c : Fin 256) :
    resV Q K V b hb (ix3 0 r c) = ((att (512 * b + r.val) (dot q k (c.val / 64) (512 * b + r.val)) (fun x => v x c.val) : ℝ) : EReal) := by
  have hr := r.isLt
  have hi : 512 * b + r.val < 2048 := by omega
  unfold resV outV
  rw [shapeCast_ab_1ab_apply]
  unfold quot
  rw [divf_apply, addf_apply, addf_apply, count_real hb, prefix_real hV hb c (carry_real hV c b _),
    num_real hV hb r (fun l => weights_real hQ hK hb _ r l) c, denom_real (f := fun h j => wt q k (512 * b + r.val) h j) r (fun l => weights_real hQ hK hb _ r l) c]
  rw [← EReal.coe_add, ← EReal.coe_add]
  have hs : (∑ j ∈ range (16 + 8 * b), wt q k (512 * b + r.val) (c.val / 64) j * (if diag j ≤ 512 * b + r.val then v (512 * b + r.val - diag j) c.val else 0))
      = ∑ j ∈ range 40, wt q k (512 * b + r.val) (c.val / 64) j * (if diag j ≤ 512 * b + r.val then v (512 * b + r.val - diag j) c.val else 0) := by
    refine sum_subset (range_subset_range.mpr (by omega)) fun j hj hn => ?_
    simp only [mem_range] at hj hn
    have : ¬ diag j ≤ 512 * b + r.val := by unfold diag; split <;> omega
    rw [if_neg this, mul_zero]
  have hp : ((512 * b + r.val + 1 : ℕ) : ℝ) + ∑ j ∈ range 40, wt q k (512 * b + r.val) (c.val / 64) j ≠ 0 :=
    (kernel_den_pos _ hi (dot q k (c.val / 64) (512 * b + r.val))).ne'
  rw [hs, coeDiv _ _ hp]
  exact congrArg _ (kernel_att _ hi _ fun x => v x c.val)

end Cert.Sparse

end
-- ==== Proof.Ref.lean ====
/-
  The reference read at an index: its mask as the two bands of the textbook, its scores as real numbers or minus
  infinity, and its softmax row as the causal softmax that the kernel's blocks are known to hold.
-/
module

public import proofs.«01_k».proof.Proof.Block
public import proofs.«01_k».proof.Proof.Gen.ReferenceIdeal
public import proofs.«01_k».proof.Proof.Gen.ReferenceIdeal.Run
public import Idealize.ShloMosaic.Lib.ValueIdx
public import Idealize.ShloMosaic.Lib.IdealHost
public import Idealize.ShloMosaic.Lib.Decide
public import Idealize.ShloMosaic.Lib.Pipeline.Value

@[expose] public section

set_option maxRecDepth 16384

noncomputable section

namespace Cert.ReferenceIdeal.Hand

open Cert.ReferenceIdeal Cert.ReferenceIdeal.Gen Cert.Sparse Finset
open Idealize.ShloMosaic
open Idealize.ShloMosaic.TcCoe Idealize.ShloMosaic.ValueIdx

/-! ## The mask -/

/-- The distance of a column to a row, as a word. -/
def gap : IVec S2048x2048 32 :=
  absi (subi (broadcastInDim S2048x2048 ![0, 1] bcast_S1x2048_S2048x2048_0_1 (broadcastInDim S1x2048 ![1] bcast_S2048_S1x2048_1 (iotaInDim S2048 32 0)))
    (broadcastInDim S2048x2048 ![0, 1] bcast_S2048x1_S2048x2048_0_1 (broadcastInDim S2048x1 ![0] bcast_S2048_S2048x1_0 (iotaInDim S2048 32 0))))

/-- The divisor of the remainder, guarded against zero. -/
def stride : IVec S_ 32 :=
  select (cmpi .eq (id (constantI S_ 32 65#32)) (constantI S_ 32 0#32)) (constantI S_ 32 1#32) (id (constantI S_ 32 65#32))

/-- The remainder of the distance. -/
def left : IVec S2048x2048 32 := Host.remsi gap (broadcastInDim S2048x2048 ![] bcast_S_S2048x2048 stride)

/-- Where a score is kept: near the diagonal, or a multiple of the stride away from it. -/
def kept : IVec S2048x2048 1 :=
  ori (cmpi .sle gap (broadcastInDim S2048x2048 ![] bcast_S_S2048x2048 (constantI S_ 32 8#32)))
    (cmpi .eq (select
        (andi (cmpi .ne (cmpi .slt left (broadcastInDim S2048x2048 ![] bcast_S_S2048x2048 (constantI S_ 32 0#32)))
            (broadcastInDim S2048x2048 ![] bcast_S_S2048x2048 (cmpi .slt stride (constantI S_ 32 0#32))))
          (cmpi .ne left (broadcastInDim S2048x2048 ![] bcast_S_S2048x2048 (constantI S_ 32 0#32))))
        (addi left (broadcastInDim S2048x2048 ![] bcast_S_S2048x2048 stride)) left)
      (broadcastInDim S2048x2048 ![] bcast_S_S2048x2048 (constantI S_ 32 0#32)))

/-- The mask's word for one distance. -/
def keptWord (w : BitVec 32) : BitVec 1 :=
  IntOp.ori (IntOp.cmpi .sle w 8#32)
    (IntOp.cmpi .eq (Scalar.select
        (IntOp.andi (IntOp.cmpi .ne (IntOp.cmpi .slt (IntOp.remsi .host w 65#32) 0#32) 0#1)
          (IntOp.cmpi .ne (IntOp.remsi .host w 65#32) 0#32))
        (IntOp.addi (IntOp.remsi .host w 65#32) 65#32) (IntOp.remsi .host w 65#32)) 0#32)

/-- The divisor is sixty-five. -/
theorem stride_eq (j : S_.Idx) : stride j = 65#32 := rfl

/-- The mask at an index is its word of the distance there. -/
theorem kept_apply (j : S2048x2048.Idx) : kept j = keptWord (gap j) := rfl

/-- The word of every distance: one within eight, one at the multiples of sixty-five, and zero elsewhere. -/
theorem keptWord_eq : ∀ n : Fin 2048, keptWord (BitVec.ofNat 32 n.val) = BitVec.ofBool (decide (n.val ≤ 8 ∨ n.val % 65 = 0)) := by
  decide +kernel

/-- The absolute value takes the sign off every distance. -/
theorem absi_neg : ∀ n : Fin 2048, IntOp.absi (-(BitVec.ofNat 32 n.val)) = BitVec.ofNat 32 n.val := by
  decide +kernel

/-- The columns' own numbers, spread over the rows. -/
theorem column_apply (i x : Fin 2048) :
    broadcastInDim S2048x2048 ![0, 1] bcast_S1x2048_S2048x2048_0_1 (broadcastInDim S1x2048 ![1] bcast_S2048_S1x2048_1 (iotaInDim S2048 32 0)) (ix2 i x)
      = BitVec.ofNat 32 x.val :=
  (broadcastInDim_apply _ _ _ (ix2 i x) (ix2 (0 : Fin 1) x) (by intro a; match a with | ⟨0, _⟩ => rfl | ⟨1, _⟩ => rfl)).trans
    ((broadcastInDim_apply _ _ _ (ix2 (0 : Fin 1) x) (ix1 x) (by intro a; match a with | ⟨0, _⟩ => rfl)).trans (iotaInDim_apply 32 0 _))

/-- The rows' own numbers, spread over the columns. -/
theorem rowword_apply (i x : Fin 2048) :
    broadcastInDim S2048x2048 ![0, 1] bcast_S2048x1_S2048x2048_0_1 (broadcastInDim S2048x1 ![0] bcast_S2048_S2048x1_0 (iotaInDim S2048 32 0)) (ix2 i x)
      = BitVec.ofNat 32 i.val :=
  (broadcastInDim_apply _ _ _ (ix2 i x) (ix2 i (0 : Fin 1)) (by intro a; match a with | ⟨0, _⟩ => rfl | ⟨1, _⟩ => rfl)).trans
    ((broadcastInDim_apply _ _ _ (ix2 i (0 : Fin 1)) (ix1 i) (by intro a; match a with | ⟨0, _⟩ => rfl)).trans (iotaInDim_apply 32 0 _))

/-- A number less one at least as great is the negated distance, as words. -/
theorem sub_word (i x : ℕ) (hi : i < 2048) (h : x ≤ i) : BitVec.ofNat 32 x - BitVec.ofNat 32 i = -(BitVec.ofNat 32 (i - x)) := by
  apply BitVec.eq_of_toNat_eq
  rw [BitVec.toNat_sub, BitVec.toNat_neg, BitVec.toNat_ofNat, BitVec.toNat_ofNat, BitVec.toNat_ofNat,
    Nat.mod_eq_of_lt (a := x) (by omega), Nat.mod_eq_of_lt (a := i) (by omega), Nat.mod_eq_of_lt (a := i - x) (by omega)]
  congr 1
  omega

/-- At or below the diagonal, the distance of column `x` to row `i` is `i - x`. -/
theorem gap_apply (i x : Fin 2048) (h : x.val ≤ i.val) : gap (ix2 i x) = BitVec.ofNat 32 (i.val - x.val) := by
  unfold gap
  refine (congrArg IntOp.absi ((congrArg₂ IntOp.subi (column_apply i x) (rowword_apply i x)).trans (sub_word i.val x.val i.isLt h))).trans ?_
  exact absi_neg ⟨i.val - x.val, by have := i.isLt; omega⟩

/-- At or below the diagonal, the mask keeps the two bands. -/
theorem kept_causal (i x : Fin 2048) (h : x.val ≤ i.val) :
    kept (ix2 i x) = BitVec.ofBool (decide (i.val - x.val ≤ 8 ∨ (i.val - x.val) % 65 = 0)) := by
  rw [kept_apply, gap_apply i x h]
  exact keptWord_eq ⟨i.val - x.val, by have := i.isLt; omega⟩

/-! ## The stages -/

variable (q k v : FVec Ideal S2x2048x12x64 .f32) (am : IVec S2x1x2048x2048 1)

/-- The scaled and masked scores. -/
def scores : FVec Ideal S2x12x2048x2048 .f32 :=
  mulf (broadcastInDim S2x12x2048x2048 ![] bcast_S_S2x12x2048x2048 (constant S_ .f32 0x3E000000#32))
    (select (broadcastInDim S2x12x2048x2048 ![0, 1, 2, 3] bcast_S2x1x2048x2048_S2x12x2048x2048_0_1_2_3 am)
      (broadcastInDim S2x12x2048x2048 ![] bcast_S_S2x12x2048x2048 (id (constant S_ .f32 0xFF800000#32)))
      (mulf (Host.dotGeneral dot_S2x2048x12x64_S2x2048x12x64_S2x12x2048x2048_3_3_1_1_02_02 none q k)
        (broadcastInDim S2x12x2048x2048 ![0, 1, 2, 3] bcast_S1x1x2048x2048_S2x12x2048x2048_0_1_2_3
          (broadcastInDim S1x1x2048x2048 ![2, 3] bcast_S2048x2048_S1x1x2048x2048_2_3 (uitofp .f32 kept)))))

/-- The greatest score of each row. -/
def top : FVec Ideal S2x12x2048 .f32 :=
  maximumf (broadcastInDim S2x12x2048 ![] bcast_S_S2x12x2048 (constant S_ .f32 0xFF800000#32))
    (Host.reduce FloatOps.maximumf (scores q k am) (constant S_ .f32 0xFF800000#32) reducesTo_S2x12x2048x2048_S2x12x2048_d3 h_S_)

/-- The exponentials of the scores below the greatest. -/
def weights : FVec Ideal S2x12x2048x2048 .f32 :=
  Host.exp (subf (scores q k am)
    (broadcastInDim S2x12x2048x2048 ![0, 1, 2, 3] bcast_S2x12x2048x1_S2x12x2048x2048_0_1_2_3
      (broadcastInDim S2x12x2048x1 ![0, 1, 2] bcast_S2x12x2048_S2x12x2048x1_0_1_2 (top q k am))))

/-- The sum of each row's exponentials. -/
def total : FVec Ideal S2x12x2048 .f32 :=
  Host.reduceAdd (weights q k am) (constant S_ .f32 0x00000000#32) reducesTo_S2x12x2048x2048_S2x12x2048_d3 h_S_

/-- The softmax of each row. -/
def probs : FVec Ideal S2x12x2048x2048 .f32 :=
  Host.divf (weights q k am)
    (broadcastInDim S2x12x2048x2048 ![0, 1, 2, 3] bcast_S2x12x2048x1_S2x12x2048x2048_0_1_2_3
      (broadcastInDim S2x12x2048x1 ![0, 1, 2] bcast_S2x12x2048_S2x12x2048x1_0_1_2 (total q k am)))

/-- The softmax rows against the values, in the arguments' layout. -/
def mixed : FVec Ideal S2x2048x12x64 .f32 :=
  transpose S2x2048x12x64 [0, 3, 1, 2]
    (Host.dotGeneral dot_S2x2048x12x64_S2x12x2048x2048_S2x12x64x2048_1_3_3_2_02_01 none v (probs q k am))
    transposes_S2x12x64x2048_S2x2048x12x64_0_3_1_2

/-- The reference's result is the last stage of its arguments. -/
theorem result_eq (m : (ℓ : Loc nD τ sig) → Buf (Elt Ideal) ℓ) (c : Dev nD) :
    Cert.ReferenceIdeal.Value.res_main_v34 m c = mixed (m ((c.tc : Thread nD τ).loc main_arg0)) (m ((c.tc : Thread nD τ).loc main_arg1))
      (m ((c.tc : Thread nD τ).loc main_arg2)) (m ((c.tc : Thread nD τ).loc main_arg3)) := by
  unfold Cert.ReferenceIdeal.Value.res_main_v34 mixed probs total weights top scores kept left gap stride
  rfl

/-! ## The two products at an index -/

/-- A score is the row of `q` against the row of `k`, over the head's lanes. -/
theorem qk_apply (b : Fin 2) (h : Fin 12) (i x : Fin 2048) :
    Host.dotGeneral dot_S2x2048x12x64_S2x2048x12x64_S2x12x2048x2048_3_3_1_1_02_02 none q k (ix4 b h i x)
      = ∑ e : Fin 64, q (ix4 b i h e) * k (ix4 b x h e) := by
  show FloatOps.dotGeneral _ _ _ _ _ _ = _
  rw [Ideal.dotGeneral_apply, ← Equiv.sum_comp (contrEquiv1 dot_S2x2048x12x64_S2x2048x12x64_S2x12x2048x2048_3_3_1_1_02_02 64 rfl rfl).symm]
  refine Finset.sum_congr rfl fun e _ => ?_
  have hk := contrEquiv1_symm_val dot_S2x2048x12x64_S2x2048x12x64_S2x12x2048x2048_3_3_1_1_02_02 64 rfl rfl e
  congr 2
  · funext a; apply Fin.ext
    match a with
    | ⟨0, _⟩ => rfl
    | ⟨1, _⟩ => rfl
    | ⟨2, _⟩ => rfl
    | ⟨3, _⟩ => exact hk
  · funext a; apply Fin.ext
    match a with
    | ⟨0, _⟩ => rfl
    | ⟨1, _⟩ => rfl
    | ⟨2, _⟩ => rfl
    | ⟨3, _⟩ => exact hk

/-- A result is the column of `v` against the row of weights. -/
theorem vp_apply (p : FVec Ideal S2x12x2048x2048 .f32) (b : Fin 2) (h : Fin 12) (e : Fin 64) (i : Fin 2048) :
    Host.dotGeneral dot_S2x2048x12x64_S2x12x2048x2048_S2x12x64x2048_1_3_3_2_02_01 none v p (ix4 b h e i)
      = ∑ x : Fin 2048, v (ix4 b x h e) * p (ix4 b h i x) := by
  show FloatOps.dotGeneral _ _ _ _ _ _ = _
  rw [Ideal.dotGeneral_apply, ← Equiv.sum_comp (contrEquiv1 dot_S2x2048x12x64_S2x12x2048x2048_S2x12x64x2048_1_3_3_2_02_01 2048 rfl rfl).symm]
  refine Finset.sum_congr rfl fun x _ => ?_
  have hk := contrEquiv1_symm_val dot_S2x2048x12x64_S2x12x2048x2048_S2x12x64x2048_1_3_3_2_02_01 2048 rfl rfl x
  congr 2
  · funext a; apply Fin.ext
    match a with
    | ⟨0, _⟩ => rfl
    | ⟨1, _⟩ => exact hk
    | ⟨2, _⟩ => rfl
    | ⟨3, _⟩ => rfl
  · funext a; apply Fin.ext
    match a with
    | ⟨0, _⟩ => rfl
    | ⟨1, _⟩ => rfl
    | ⟨2, _⟩ => rfl
    | ⟨3, _⟩ => exact hk

/-- The last stage at an index. -/
theorem mixed_apply (b : Fin 2) (i : Fin 2048) (h : Fin 12) (e : Fin 64) :
    mixed q k v am (ix4 b i h e) = ∑ x : Fin 2048, v (ix4 b x h e) * probs q k am (ix4 b h i x) := by
  unfold mixed
  rw [transpose_apply _ _ _ (ix4 b i h e) (ix4 b h e i)
    (by intro a; match a with | ⟨0, _⟩ => rfl | ⟨1, _⟩ => rfl | ⟨2, _⟩ => rfl | ⟨3, _⟩ => rfl), vp_apply]

/-- A row's number, spread over the row. -/
theorem spread_apply (t : FVec Ideal S2x12x2048 .f32) (b : Fin 2) (h : Fin 12) (i x : Fin 2048) :
    broadcastInDim S2x12x2048x2048 ![0, 1, 2, 3] bcast_S2x12x2048x1_S2x12x2048x2048_0_1_2_3
      (broadcastInDim S2x12x2048x1 ![0, 1, 2] bcast_S2x12x2048_S2x12x2048x1_0_1_2 t) (ix4 b h i x) = t (ix3 b h i) := by
  rw [broadcastInDim_apply _ _ _ (ix4 b h i x) (ix4 b h i 0)
      (by intro a; match a with | ⟨0, _⟩ => rfl | ⟨1, _⟩ => rfl | ⟨2, _⟩ => rfl | ⟨3, _⟩ => rfl),
    broadcastInDim_apply _ _ _ (ix4 b h i 0) (ix3 b h i)
      (by intro a; match a with | ⟨0, _⟩ => rfl | ⟨1, _⟩ => rfl | ⟨2, _⟩ => rfl)]

/-! ## The values, where the arguments are real and the mask is causal -/

/-- Minus infinity's pattern. -/
theorem lowBits : Scalar.ofBits (F := Ideal) .f32 0xFF800000#32 = (⊥ : EReal) := by
  show Ideal.ieee 8 23 0xFF800000#32 = _
  simp [Ideal.ieee]

/-- The greatest of minus infinity and finitely many numbers below plus infinity, one of them real, is real. -/
theorem fold_max_real {ι : Type} [Fintype ι] (f : ι → EReal) (hf : ∀ x, f x < ⊤) (x₀ : ι) (h₀ : ⊥ < f x₀) :
    ∃ M : ℝ, Finset.univ.fold max ⊥ f = (M : EReal) := by
  have h1 : Finset.univ.fold max ⊥ f < ⊤ := Finset.fold_max_lt _ |>.2 ⟨bot_lt_top, fun x _ => hf x⟩
  have h2 : ⊥ < Finset.univ.fold max ⊥ f := Finset.lt_fold_max _ |>.2 (.inr ⟨x₀, Finset.mem_univ _, h₀⟩)
  exact ⟨_, (EReal.coe_toReal h1.ne h2.ne').symm⟩

variable (b : Fin 2) (h : Fin 12) (qr kr vr : ℕ → ℕ → ℝ)

/-- Row `i` of one head's queries against its keys. -/
def row (i : ℕ) (x : ℕ) : ℝ := ∑ e ∈ range 64, qr i e * kr x e

variable (hq : ∀ (x : Fin 2048) (e : Fin 64), q (ix4 b x h e) = ((qr x.val e.val : ℝ) : EReal))
variable (hk : ∀ (x : Fin 2048) (e : Fin 64), k (ix4 b x h e) = ((kr x.val e.val : ℝ) : EReal))
variable (hv : ∀ (x : Fin 2048) (e : Fin 64), v (ix4 b x h e) = ((vr x.val e.val : ℝ) : EReal))
variable (ha : ∀ i x : Fin 2048, am (ix4 b 0 i x) = BitVec.ofBool (decide (i.val < x.val)))

include hq hk in
/-- The product of a query and a key is the real one. -/
theorem qk_real (i x : Fin 2048) :
    Host.dotGeneral dot_S2x2048x12x64_S2x2048x12x64_S2x12x2048x2048_3_3_1_1_02_02 none q k (ix4 b h i x)
      = ((row qr kr i.val x.val : ℝ) : EReal) := by
  rw [qk_apply]
  simp only [hq, hk, ← EReal.coe_mul]
  rw [coeSum, row, Finset.sum_range]

include hq hk ha in
/-- A score: an eighth of the product where kept and zero where not, and minus infinity above the diagonal. -/
theorem scores_real (i x : Fin 2048) :
    scores q k am (ix4 b h i x)
      = if x.val ≤ i.val then ((1 / 8 * gate i.val (row qr kr i.val) x.val : ℝ) : EReal) else ⊥ := by
  have e1 : scores q k am (ix4 b h i x) = Scalar.ofBits (F := Ideal) .f32 0x3E000000#32
      * Scalar.select (am (ix4 b 0 i x)) (Scalar.ofBits (F := Ideal) .f32 0xFF800000#32)
          (((row qr kr i.val x.val : ℝ) : EReal) * (((kept (ix2 i x)).toNat : ℝ) : EReal)) := by
    unfold scores
    simp only [mulf, select]
    rw [Ideal.mulf_def, Ideal.mulf_def]
    rw [broadcastInDim_scalar_apply, broadcastInDim_scalar_apply, qk_real q k b h qr kr hq hk,
      broadcastInDim_apply _ _ am (ix4 b h i x) (ix4 b 0 i x)
        (by intro a; match a with | ⟨0, _⟩ => rfl | ⟨1, _⟩ => rfl | ⟨2, _⟩ => rfl | ⟨3, _⟩ => rfl),
      broadcastInDim_apply _ _ _ (ix4 b h i x) (ix4 0 0 i x)
        (by intro a; match a with | ⟨0, _⟩ => rfl | ⟨1, _⟩ => rfl | ⟨2, _⟩ => rfl | ⟨3, _⟩ => rfl),
      broadcastInDim_apply _ _ _ (ix4 0 0 i x) (ix2 i x)
        (by intro a; match a with | ⟨0, _⟩ => rfl | ⟨1, _⟩ => rfl)]
    rfl
  rw [e1, ha, eighth, lowBits]
  by_cases hx : x.val ≤ i.val
  · rw [if_pos hx, kept_causal i x hx, decide_eq_false (by omega)]
    show ((1 / 8 : ℝ) : EReal) * (_ * _) = _
    rw [← EReal.coe_mul, ← EReal.coe_mul]
    congr 2
    unfold gate
    by_cases hg : i.val - x.val ≤ 8 ∨ (i.val - x.val) % 65 = 0
    · rw [if_pos hg, decide_eq_true hg]; simp
    · rw [if_neg hg, decide_eq_false hg]; simp
  · rw [if_neg hx, decide_eq_true (by omega)]
    exact EReal.coe_mul_bot_of_pos (by norm_num)

/-- A row's greatest entry, as a fold over the row from minus infinity. -/
theorem rowmax_apply (x : FVec Ideal S2x12x2048x2048 .f32) (red : S2x12x2048x2048.Reduces [3] S2x12x2048) (j : S2x12x2048.Idx) :
    Host.reduce FloatOps.maximumf x (constant S_ .f32 0xFF800000#32) reducesTo_S2x12x2048x2048_S2x12x2048_d3 h_S_ j
      = Finset.univ.fold FloatOps.maximumf (Scalar.ofBits (F := Ideal) .f32 0xFF800000#32) (x ∘ red.lift j) :=
  Host.reduce_eq_fold_single FloatOps.maximumf x (constant S_ .f32 0xFF800000#32) reducesTo_S2x12x2048x2048_S2x12x2048_d3 red h_S_ j

/-- The row's entry at position `x`. -/
theorem lift_row (red : S2x12x2048x2048.Reduces [3] S2x12x2048) (b : Fin 2) (h : Fin 12) (i x : Fin 2048) :
    red.lift (ix3 b h i) x = ix4 b h i x := by
  funext a; apply Fin.ext
  match a with
  | ⟨0, _⟩ => rfl
  | ⟨1, _⟩ => rfl
  | ⟨2, _⟩ => rfl
  | ⟨3, _⟩ => rfl

/-- The scores' axes without the last are the rows'. -/
theorem reduces_row : S2x12x2048x2048.Reduces [3] S2x12x2048 := by decide

/-- The fold of the host's maximum is that of the linear order's. -/
theorem fold_maximumf {ι : Type} [Fintype ι] (f : ι → EReal) (z : EReal) :
    Finset.univ.fold (FloatOps.maximumf (F := Ideal) (φ := .f32)) z f = Finset.univ.fold max z f := rfl

/-- The greater of two vectors, at an index. -/
theorem greater_apply {s : Shape} (x y : FVec Ideal s .f32) (j : s.Idx) : maximumf x y j = max (x j) (y j) := rfl

/-- A constant, spread over any shape. -/
theorem splat_apply {s : Shape} (w : BitVec 32) (hb : S_.BroadcastsInDim s ![]) (j : s.Idx) :
    broadcastInDim s ![] hb (constant (F := Ideal) S_ .f32 w) j = Scalar.ofBits .f32 w := broadcastInDim_scalar_apply hb _ j

/-- A row's greatest score is the fold over its scores. -/
theorem top_fold (j : S2x12x2048.Idx) : top q k am j = Finset.univ.fold max ⊥ (scores q k am ∘ reduces_row.lift j) := by
  unfold top
  rw [greater_apply, splat_apply, rowmax_apply _ reduces_row, fold_maximumf, lowBits, max_eq_right bot_le]

include hq hk ha in
/-- A row's greatest score is real. -/
theorem top_real (i : Fin 2048) : ∃ M : ℝ, top q k am (ix3 b h i) = (M : EReal) := by
  have e (x : Fin 2048) : (scores q k am ∘ reduces_row.lift (ix3 b h i)) x
      = if x.val ≤ i.val then ((1 / 8 * gate i.val (row qr kr i.val) x.val : ℝ) : EReal) else ⊥ :=
    (congrArg (scores q k am) (lift_row reduces_row b h i x)).trans (scores_real q k am b h qr kr hq hk ha i x)
  rw [top_fold]
  refine fold_max_real _ (fun x => ?_) i ?_
  · refine lt_of_eq_of_lt (e x) ?_
    split
    · exact EReal.coe_lt_top _
    · exact bot_lt_top
  · refine lt_of_lt_of_eq ?_ (e i).symm
    rw [if_pos le_rfl]
    exact EReal.bot_lt_coe _

include hq hk ha in
/-- A weight is the exponential of its score below the row's greatest, and zero above the diagonal. -/
theorem weights_real (i : Fin 2048) (M : ℝ) (hM : top q k am (ix3 b h i) = (M : EReal)) (x : Fin 2048) :
    weights q k am (ix4 b h i x)
      = ((if x.val ≤ i.val then Real.exp (1 / 8 * gate i.val (row qr kr i.val) x.val - M) else 0 : ℝ) : EReal) := by
  unfold weights
  show Ideal.exp (scores q k am (ix4 b h i x) - broadcastInDim S2x12x2048x2048 _ _ _ (ix4 b h i x)) = _
  rw [spread_apply, hM, scores_real q k am b h qr kr hq hk ha]
  by_cases hx : x.val ≤ i.val
  · rw [if_pos hx, if_pos hx, ← EReal.coe_sub, Ideal.exp_coe]
  · rw [if_neg hx, if_neg hx, EReal.bot_sub, Ideal.exp_bot]
    rfl

include hq hk ha in
/-- A row's sum of weights is the real one. -/
theorem total_real (i : Fin 2048) (M : ℝ) (hM : top q k am (ix3 b h i) = (M : EReal)) :
    total q k am (ix3 b h i)
      = ((∑ y : Fin 2048, if y.val ≤ i.val then Real.exp (1 / 8 * gate i.val (row qr kr i.val) y.val - M) else 0 : ℝ) : EReal) := by
  unfold total
  rw [hostReduceAdd_apply, Ideal.hostReduceAdd_single _ reduces_row]
  show Scalar.ofBits (F := Ideal) .f32 0x00000000#32 + _ = _
  rw [zeroBits, EReal.coe_zero, zero_add, ← coeSum]
  exact Finset.sum_congr rfl fun x _ =>
    (congrArg (weights q k am) (lift_row reduces_row b h i x)).trans (weights_real q k am b h qr kr hq hk ha i M hM x)

include hq hk hv ha in
/-- The reference's result is the causal softmax row against the values. -/
theorem mixed_real (i : Fin 2048) (e : Fin 64) :
    mixed q k v am (ix4 b i h e) = ((att i.val (row qr kr i.val) (fun x => vr x e.val) : ℝ) : EReal) := by
  obtain ⟨M, hM⟩ := top_real q k am b h qr kr hq hk ha i
  rw [mixed_apply, ← softmax_att i.val i.isLt (row qr kr i.val) (fun x => vr x e.val) M, ← coeSum]
  refine Finset.sum_congr rfl fun x _ => ?_
  have p : probs q k am (ix4 b h i x) = Ideal.div (weights q k am (ix4 b h i x)) (total q k am (ix3 b h i)) := by
    unfold probs
    show Ideal.div _ (broadcastInDim S2x12x2048x2048 _ _ _ (ix4 b h i x)) = _
    rw [spread_apply]
  rw [p, hv, weights_real q k am b h qr kr hq hk ha i M hM, total_real q k am b h qr kr hq hk ha i M hM,
    coeDiv _ _ (softmax_den_pos i.val i.isLt (row qr kr i.val) M).ne', ← EReal.coe_mul]

end Cert.ReferenceIdeal.Hand

end
-- ==== Proof.Agree.lean ====
/-
  The kernel's result is the reference's, where the arguments are finite and the mask is causal: both are the causal
  softmax row, each in its own indices.
-/
module

public import proofs.«01_k».proof.Defs
public import proofs.«01_k».proof.Proof.Ref
public import proofs.«01_k».proof.Proof.Out

@[expose] public section

set_option maxRecDepth 16384

noncomputable section

namespace Cert.Agree

open Idealize.ShloMosaic hiding ix1 ix2 ix3 ix4
open Idealize.ShloMosaic.TcCoe Idealize.ShloMosaic.ValueIdx Idealize.SL.Sem
open Cert.Sparse Finset

/-! ## The precondition, opened -/

/-- The predicate's facts. -/
instance facts : Cert.Pre_causal_finite.Facts := ⟨by decide⟩

/-- Both of two bits are one where their conjunction is. -/
theorem and_one : ∀ a b : BitVec 1, IntOp.andi a b = 1#1 → a = 1#1 ∧ b = 1#1 := by decide

/-- Two bits are equal where their comparison is one. -/
theorem eq_one : ∀ a b : BitVec 1, IntOp.cmpi .eq a b = 1#1 → a = b := by decide

/-- Plus infinity's pattern. -/
theorem highBits : Scalar.ofBits (F := Ideal) .f32 0x7F800000#32 = (⊤ : EReal) := by
  show Ideal.ieee 8 23 0x7F800000#32 = _
  simp [Ideal.ieee]

/-- A number whose absolute value is below plus infinity is real. -/
theorem real_of_lt {s : Shape} (x : FVec Ideal s .f32) (hb : (⟨0, ![]⟩ : Shape).BroadcastsInDim s ![]) (j : s.Idx)
    (h : cmpf .olt (Host.absf x) (broadcastInDim s ![] hb (constant (F := Ideal) ⟨0, ![]⟩ .f32 0x7F800000#32)) j = 1#1) :
    x j = ((x j).toReal : EReal) := by
  have h' : Ideal.cmp .olt (max (x j) (-(x j))) (broadcastInDim s ![] hb (constant (F := Ideal) ⟨0, ![]⟩ .f32 0x7F800000#32) j) = 1#1 := h
  rw [broadcastInDim_scalar_apply] at h'
  have h2 : Ideal.cmp .olt (max (x j) (-(x j))) ⊤ = 1#1 := highBits ▸ h'
  have h3 : max (x j) (-(x j)) < ⊤ := by
    by_contra hn
    unfold Ideal.cmp at h2
    rw [decide_eq_false hn] at h2
    exact absurd (show BitVec.ofBool false = 1#1 from h2) (by decide)
  refine (EReal.coe_toReal (lt_of_le_of_lt (le_max_left _ _) h3).ne ?_).symm
  intro hbot
  rw [hbot, EReal.neg_bot] at h3
  exact absurd h3 (by simp)

section
variable (q k v : FVec Ideal (⟨4, ![2, 2048, 12, 64]⟩ : Shape) .f32) (am : IVec (⟨4, ![2, 1, 2048, 2048]⟩ : Shape) 1)

/-- The precondition's first half: every argument is real. -/
theorem real_args (h : (Cert.Pre_causal_finite.fn (F := Ideal) q k v am).1 = fun _ => 1#1) (j : (⟨4, ![2, 2048, 12, 64]⟩ : Shape).Idx) :
    q j = ((q j).toReal : EReal) ∧ k j = ((k j).toReal : EReal) ∧ v j = ((v j).toReal : EReal) := by
  unfold Cert.Pre_causal_finite.fn at h
  obtain ⟨h1, h2⟩ := and_one _ _ (congrFun h j)
  obtain ⟨h3, h4⟩ := and_one _ _ h1
  exact ⟨real_of_lt q _ j h3, real_of_lt k _ j h4, real_of_lt v _ j h2⟩

/-- The signed order of two small words is that of the numbers. -/
theorem slt_small (i x : Fin 2048) : IntOp.cmpi .slt (BitVec.ofNat 32 i.val) (BitVec.ofNat 32 x.val) = BitVec.ofBool (decide (i.val < x.val)) :=
  WordCmp.cmpi_slt_ofNat (by have := i.isLt; omega) (by have := x.isLt; omega)

/-- The precondition's second half: the mask hides the keys after the query. -/
theorem mask_arg (h : (Cert.Pre_causal_finite.fn (F := Ideal) q k v am).2 = fun _ => 1#1) (b : Fin 2) (i x : Fin 2048) :
    am (ix4 b 0 i x) = BitVec.ofBool (decide (i.val < x.val)) := by
  unfold Cert.Pre_causal_finite.fn at h
  exact (eq_one _ _ (congrFun h (ix4 b 0 i x))).trans (slt_small i x)
end

/-! ## The two results -/

/-- An argument's real numbers, by plain numbers. -/
def num (X : (⟨4, ![2, 2048, 12, 64]⟩ : Shape).Idx → EReal) (b : Fin 2) (x h e : ℕ) : ℝ :=
  if p : x < 2048 ∧ h < 12 ∧ e < 64 then (X (ix4 b ⟨x, p.1⟩ ⟨h, p.2.1⟩ ⟨e, p.2.2⟩)).toReal else 0

/-- At an index, the number is the argument's. -/
theorem num_apply (X : (⟨4, ![2, 2048, 12, 64]⟩ : Shape).Idx → EReal) (b : Fin 2) (x : Fin 2048) (h : Fin 12) (e : Fin 64) :
    num X b x.val h.val e.val = (X (ix4 b x h e)).toReal := dif_pos ⟨x.isLt, h.isLt, e.isLt⟩

/-- An argument's numbers in the lanes of one group. -/
def lanes (X : (⟨4, ![2, 2048, 12, 64]⟩ : Shape).Idx → EReal) (b : Fin 2) (g : ℕ) (x l : ℕ) : ℝ :=
  num X b x ((256 * g + l) / 64) ((256 * g + l) % 64)

/-- A head's lane in its group is the head's own. -/
theorem lanes_head (X : (⟨4, ![2, 2048, 12, 64]⟩ : Shape).Idx → EReal) (b : Fin 2) (h x e : ℕ) (he : e < 64) :
    lanes X b (h / 4) x (64 * (h % 4) + e) = num X b x h e := by
  unfold lanes
  rw [show (256 * (h / 4) + (64 * (h % 4) + e)) / 64 = h by omega, show (256 * (h / 4) + (64 * (h % 4) + e)) % 64 = e by omega]

section
open Cert.KernelIdeal Cert.KernelIdeal.Gen Cert.KernelIdeal.Hand
variable (m : (ℓ : Loc nD τ sig) → Buf (Elt Ideal) ℓ) (c : Dev nD)

/-- Where every argument is real, the kernel's result is the causal softmax row. -/
theorem kernel_real
    (hq : ∀ j, m ((c.tc : Thread nD τ).loc main_arg0) j = ((m ((c.tc : Thread nD τ).loc main_arg0) j : EReal).toReal : EReal))
    (hk : ∀ j, m ((c.tc : Thread nD τ).loc main_arg1) j = ((m ((c.tc : Thread nD τ).loc main_arg1) j : EReal).toReal : EReal))
    (hv : ∀ j, m ((c.tc : Thread nD τ).loc main_arg2) j = ((m ((c.tc : Thread nD τ).loc main_arg2) j : EReal).toReal : EReal))
    (b : Fin 2) (i : Fin 2048) (h : Fin 12) (e : Fin 64) :
    shapeCast S2x2048x12x64 (whole m c) parted (ix4 b i h e)
      = ((att i.val (Cert.ReferenceIdeal.Hand.row (fun x e => num (m ((c.tc : Thread nD τ).loc main_arg0)) b x h.val e)
          (fun x e => num (m ((c.tc : Thread nD τ).loc main_arg1)) b x h.val e) i.val)
          (fun x => num (m ((c.tc : Thread nD τ).loc main_arg2)) b x h.val e.val) : ℝ) : EReal) := by
  have hg : h.val / 4 < 3 := by have := h.isLt; omega
  have he := e.isLt
  have HQ : Holds (iblk m c 0 (pt b (h.val / 4) b.isLt hg)) (lanes (m ((c.tc : Thread nD τ).loc main_arg0)) b (h.val / 4)) := fun x l =>
    (iblk_q m c b ⟨h.val / 4, hg⟩ x l).trans ((hq _).trans (congrArg (fun r : ℝ => (r : EReal))
      (num_apply (m ((c.tc : Thread nD τ).loc main_arg0)) b x ⟨(256 * (h.val / 4) + l.val) / 64, by omega⟩ ⟨(256 * (h.val / 4) + l.val) % 64, by omega⟩).symm))
  have HK : Holds (iblk m c 1 (pt b (h.val / 4) b.isLt hg)) (lanes (m ((c.tc : Thread nD τ).loc main_arg1)) b (h.val / 4)) := fun x l =>
    (iblk_k m c b ⟨h.val / 4, hg⟩ x l).trans ((hk _).trans (congrArg (fun r : ℝ => (r : EReal))
      (num_apply (m ((c.tc : Thread nD τ).loc main_arg1)) b x ⟨(256 * (h.val / 4) + l.val) / 64, by omega⟩ ⟨(256 * (h.val / 4) + l.val) % 64, by omega⟩).symm))
  have HV : Holds (iblk m c 2 (pt b (h.val / 4) b.isLt hg)) (lanes (m ((c.tc : Thread nD τ).loc main_arg2)) b (h.val / 4)) := fun x l =>
    (iblk_v m c b ⟨h.val / 4, hg⟩ x l).trans ((hv _).trans (congrArg (fun r : ℝ => (r : EReal))
      (num_apply (m ((c.tc : Thread nD τ).loc main_arg2)) b x ⟨(256 * (h.val / 4) + l.val) / 64, by omega⟩ ⟨(256 * (h.val / 4) + l.val) % 64, by omega⟩).symm))
  rw [result_apply]
  unfold outAt
  rw [outs_at _ _ _ _ i _ 4 le_rfl i.isLt, res_real HQ HK HV]
  show ((att (512 * (i.val / 512) + i.val % 512) (dot _ _ ((64 * (h.val % 4) + e.val) / 64) (512 * (i.val / 512) + i.val % 512))
    (fun x => lanes _ b (h.val / 4) x (64 * (h.val % 4) + e.val)) : ℝ) : EReal) = _
  rw [Nat.div_add_mod, show (64 * (h.val % 4) + e.val) / 64 = h.val % 4 by omega]
  congr 2
  · funext x
    unfold dot Cert.ReferenceIdeal.Hand.row
    refine Finset.sum_congr rfl fun l hl => ?_
    have hl' := Finset.mem_range.1 hl
    rw [lanes_head _ _ _ _ _ hl', lanes_head _ _ _ _ _ hl']
  · funext x
    exact lanes_head _ _ _ _ _ he
end

/-- From arguments that are equal, finite and causally masked, the two programs' results are equal. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hp : Cert.Pre_KernelIdeal_causal_finite m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Value.res_main_v34 m' c
      = shapeCast Cert.KernelIdeal.S2x2048x12x64 (Cert.KernelIdeal.Hand.whole m c) Cert.KernelIdeal.Hand.parted := by
  obtain ⟨p1, p2⟩ := hp c
  have hr := real_args _ _ _ _ p1
  have ha := mask_arg _ _ _ _ p2
  rw [Cert.ReferenceIdeal.Hand.result_eq, h0, h1, h2, h3]
  funext j
  obtain ⟨b, i, h, e, rfl⟩ : ∃ (b : Fin 2) (i : Fin 2048) (h : Fin 12) (e : Fin 64), j = ix4 b i h e := ⟨j 0, j 1, j 2, j 3, ValueIdx.eq_ix4 j⟩
  refine Eq.trans ?_ (kernel_real m c (fun j => (hr j).1) (fun j => (hr j).2.1) (fun j => (hr j).2.2) b i h e).symm
  exact Cert.ReferenceIdeal.Hand.mixed_real _ _ _ _ b h
    (fun x e => num (m ((c.tc : Thread Cert.KernelIdeal.nD Cert.KernelIdeal.τ).loc Cert.KernelIdeal.main_arg0)) b x h.val e)
    (fun x e => num (m ((c.tc : Thread Cert.KernelIdeal.nD Cert.KernelIdeal.τ).loc Cert.KernelIdeal.main_arg1)) b x h.val e)
    (fun x e => num (m ((c.tc : Thread Cert.KernelIdeal.nD Cert.KernelIdeal.τ).loc Cert.KernelIdeal.main_arg2)) b x h.val e)
    (fun x e => (hr _).1.trans (congrArg (fun r : ℝ => (r : EReal)) (num_apply _ b x h e).symm))
    (fun x e => (hr _).2.1.trans (congrArg (fun r : ℝ => (r : EReal)) (num_apply _ b x h e).symm))
    (fun x e => (hr _).2.2.trans (congrArg (fun r : ℝ => (r : EReal)) (num_apply _ b x h e).symm))
    (fun i x => ha b i x) i e

end Cert.Agree

end
-- ==== Proof.lean ====
/-
  The certificate's proof: each program's run with its arguments unchanged and its semaphores at zero, the two
  readings of the kernel agreeing by having no rewrite, and the kernel's result against the softmax written out.
-/
module

public import proofs.«01_k».proof.Defs
public import proofs.«01_k».proof.Proof.RunK
public import proofs.«01_k».proof.Proof.RunI
public import proofs.«01_k».proof.Proof.Out
public import proofs.«01_k».proof.Proof.Agree
public import proofs.«01_k».proof.Proof.Gen.ReferenceIdeal
public import proofs.«01_k».proof.Proof.Gen.ReferenceIdeal.Run
public import Idealize.ShloMosaic.Lib.Quiescent
public import Idealize.ShloMosaic.Adequacy
public import Idealize.ShloMosaic.Init

@[expose] public section

noncomputable section

namespace Cert.Proof

open Idealize.ShloMosaic Idealize.SL.Sem

/-- The reference has no semaphore, so beside its unchanged arguments every counter reads zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run _ _ _).mono (fun r h => ⟨fun c => (h c).2, sem_eq_zero_of_no_sems rfl r.2⟩) (Cert.ReferenceIdeal.Value.run m g)

/-- Every claim: the five runs, the idealization, and the equality of the two results. -/
theorem claim : Cert.Claim := ⟨Cert.Kernel.Gen.facts, Cert.KernelIdeal.Gen.facts, Cert.ReferenceIdeal.Gen.facts, Cert.Agree.facts,
  fun m g _ => Cert.Kernel.Hand.frame m g,
  fun m g _ => Cert.KernelIdeal.Hand.frame m g,
  fun m g _ => Cert.KernelIdeal.Hand.frame m g,
  fun m g _ => reference_frame m g,
  fun m g _ => reference_frame m g,
  trivial,
  fun m g m' g' hp hm => ⟨fun c => shapeCast Cert.KernelIdeal.S2x2048x12x64 (Cert.KernelIdeal.Hand.whole m c) Cert.KernelIdeal.Hand.parted,
    Cert.KernelIdeal.Hand.run_result m g,
    (θ_run _ _ _).mono (fun r h c => ⟨(h c).1.trans (Cert.Agree.results_eq m m' hp c (hm c).1 (hm c).2.1 (hm c).2.2.1 (hm c).2.2.2), (h c).2⟩)
      (Cert.ReferenceIdeal.Value.run m' g')⟩⟩

end Cert.Proof

end
